-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v28) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x64x1024 : Shape := ⟨3, ![32, 64, 1024]⟩
abbrev S1024x64 : Shape := ⟨2, ![1024, 64]⟩
abbrev S32x1x1024 : Shape := ⟨3, ![32, 1, 1024]⟩
abbrev S1x1 : Shape := ⟨2, ![1, 1]⟩
abbrev S1x64x1024 : Shape := ⟨3, ![1, 64, 1024]⟩
abbrev S1x1x1024 : Shape := ⟨3, ![1, 1, 1024]⟩
abbrev S64x1024 : Shape := ⟨2, ![64, 1024]⟩
abbrev S1024x1024 : Shape := ⟨2, ![1024, 1024]⟩
abbrev S1024 : Shape := ⟨1, ![1024]⟩
abbrev S1024x1 : Shape := ⟨2, ![1024, 1]⟩
abbrev S1x1024 : Shape := ⟨2, ![1, 1024]⟩
abbrev S1 : Shape := ⟨1, ![1]⟩
abbrev S1x1x1 : Shape := ⟨3, ![1, 1, 1]⟩
abbrev S_ : Shape := ⟨0, ![]⟩
abbrev S32x1024 : Shape := ⟨2, ![32, 1024]⟩

abbrev nBuf : Space → Nat
  | .hbm => 12
  | .vmem => 8
  | .smem => 0
  | _ => 0

abbrev bufTy : (tb : Table) → Fin (tcTables nBuf tb) → BufTy
  | .hbm, ⟨0, _⟩ => ⟨S32x64x1024, .f32⟩
  | .hbm, ⟨1, _⟩ => ⟨S1024x64, .f32⟩
  | .hbm, ⟨2, _⟩ => ⟨S32x64x1024, .f32⟩
  | .hbm, ⟨3, _⟩ => ⟨S32x1x1024, .i32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S32x1024, .i32⟩
  | .local _ .vmem, ⟨0, _⟩ => ⟨S1x64x1024, .f32⟩
  | .local _ .vmem, ⟨1, _⟩ => ⟨S1x64x1024, .f32⟩
  | .local _ .vmem, ⟨2, _⟩ => ⟨S1024x64, .f32⟩
  | .local _ .vmem, ⟨3, _⟩ => ⟨S1x64x1024, .f32⟩
  | .local _ .vmem, ⟨4, _⟩ => ⟨S1x64x1024, .f32⟩
  | .local _ .vmem, ⟨5, _⟩ => ⟨S1x1x1024, .i32⟩
  | .local _ .vmem, ⟨6, _⟩ => ⟨S1x1x1024, .i32⟩
  | .local _ .vmem, ⟨7, _⟩ => ⟨S1x1, .f32⟩
  | _, _ => ⟨S32x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v46 : BitVec 1 := Scalar.cmpi .eq arg0 c0_i32
  let v47 : BitVec 32 := Scalar.extui v46
  let c0_i32_17 : BitVec 32 := 0#32
  let v48 : BitVec 1 := Scalar.cmpi .ne v47 c0_i32_17
  v48

def k0_cond2 (i : grid0.Coords) : BitVec 1 :=
  let arg0 : BitVec 32 := BitVec.ofNat 32 (i 0).val
  let c0_i32_18 : BitVec 32 := 0#32
  let v49 : BitVec 1 := Scalar.cmpi .ne arg0 c0_i32_18
  let v50 : BitVec 32 := Scalar.extui v49
  let c0_i32_19 : BitVec 32 := 0#32
  let v51 : BitVec 1 := Scalar.cmpi .ne v50 c0_i32_19
  v51

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S32x64x1024 : Shape := ⟨3, ![32, 64, 1024]⟩
abbrev S1024x64 : Shape := ⟨2, ![1024, 64]⟩
abbrev S32x1024x64 : Shape := ⟨3, ![32, 1024, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x1024 : Shape := ⟨2, ![64, 1024]⟩
abbrev S32768x1024 : Shape := ⟨2, ![32768, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S32x1024 : Shape := ⟨2, ![32, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32x64x1024, .f32⟩
  | .hbm, ⟨1, _⟩ => ⟨S1024x64, .f32⟩
  | .hbm, ⟨2, _⟩ => ⟨S32x1024x64, .f32⟩
  | .hbm, ⟨3, _⟩ => ⟨S32768x64, .f32⟩
  | .hbm, ⟨4, _⟩ => ⟨S32768x64, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x64, .f32⟩
  | .hbm, ⟨10, _⟩ => ⟨S32768x64, .f32⟩
  | .hbm, ⟨11, _⟩ => ⟨S64x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x1024, .i32⟩
  | .hbm, ⟨22, _⟩ => ⟨S_, .f32⟩
  | .hbm, ⟨23, _⟩ => ⟨S_, .i32⟩
  | .hbm, ⟨24, _⟩ => ⟨S32768, .f32⟩
  | .hbm, ⟨25, _⟩ => ⟨S32768, .i32⟩
  | .hbm, ⟨26, _⟩ => ⟨S_, .i32⟩
  | .hbm, ⟨27, _⟩ => ⟨S32768, .i32⟩
  | .hbm, ⟨28, _⟩ => ⟨S32768, .i1⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S32768x1, .i32⟩
  | .hbm, ⟨34, _⟩ => ⟨S1, .i32⟩
  | .hbm, ⟨35, _⟩ => ⟨S_, .i32⟩
  | .hbm, ⟨36, _⟩ => ⟨S32768x1, .i32⟩
  | .hbm, ⟨37, _⟩ => ⟨S32768x1, .i1⟩
  | .hbm, ⟨38, _⟩ => ⟨S1x1, .i32⟩
  | .hbm, ⟨39, _⟩ => ⟨S32768x1, .i32⟩
  | .hbm, ⟨40, _⟩ => ⟨S32768x1, .i1⟩
  | .hbm, ⟨41, _⟩ => ⟨S32768x1, .i1⟩
  | .hbm, ⟨42, _⟩ => ⟨S_, .i1⟩
  | .hbm, ⟨43, _⟩ => ⟨S32768, .i1⟩
  | .hbm, ⟨44, _⟩ => ⟨S32768x64, .f32⟩
  | .hbm, ⟨45, _⟩ => ⟨S32768x64, .i1⟩
  | .hbm, ⟨46, _⟩ => ⟨S_, .f32⟩
  | .hbm, ⟨47, _⟩ => ⟨S32768x64, .f32⟩
  | .hbm, ⟨48, _⟩ => ⟨S32768x64, .f32⟩
  | .hbm, ⟨49, _⟩ => ⟨S32x1024x64, .f32⟩
  | .hbm, ⟨50, _⟩ => ⟨S32x1024x64, .f32⟩
  | .hbm, ⟨51, _⟩ => ⟨S32x1024x64, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S32x1024x64, .f32⟩
  | .hbm, ⟨57, _⟩ => ⟨S32x1024x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S32x1024x64, .f32⟩
  | .hbm, ⟨66, _⟩ => ⟨S32x1024x64, .f32⟩
  | .hbm, ⟨67, _⟩ => ⟨S32x64x1024, .f32⟩
  | .hbm, ⟨68, _⟩ => ⟨S32x1024, .i32⟩
  | _, _ => ⟨S32x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_4 : Ref sig .tc := ⟨.hbm, 58, rfl⟩
abbrev main_v25 : Ref sig .tc := ⟨.hbm, 59, rfl⟩
abbrev main_cst_5 : Ref sig .tc := ⟨.hbm, 60, rfl⟩
abbrev main_v26 : Ref sig .tc := ⟨.hbm, 61, rfl⟩
abbrev main_cst_6 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩

abbrev nD : Nat := 1
abbrev τ : Topo := Topo.v7x

variable {F : FTy → Type} [FloatOps F]
-- ==== Proof.KernelOut.lean ====
/-
  What one run of the kernel's body leaves in its three output buffers, as the body's own steps of the two input blocks
  (and, from the second grid point on, of the running sum).
-/
module

public import proofs.«01_k».proof.Proof.Gen.KernelIdeal.Frame
public import Idealize.ShloMosaic.Lib.Pipeline.Value
public import Idealize.ShloMosaic.Lib.Tactic

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (a1 : Memref sig .tc .vmem S1x64x1024 .f32) (h1 : a1.IsWhole)
  (a2 : Memref sig .tc .vmem S1024x64 .f32) (h2 : a2.IsWhole) (a3 : Memref sig .tc .vmem S1x64x1024 .f32) (h3 : a3.IsWhole)
  (a4 : Memref sig .tc .vmem S1x1x1024 .i32) (h4 : a4.IsWhole) (a5 : Memref sig .tc .vmem S1x1 .f32) (h5 : a5.IsWhole)
  (z : Vec F S1x64x1024 .f32) (e : Vec F S1024x64 .f32)

/-- At the first point the quantized block holds the passed-through latents, -/
theorem outA2 (hc0 : cond0_0 i) (hc1 : ¬cond0_1 i) :
    out0_A_2 c i a1 h1 a2 h2 a3 h3 a4 h4 a5 h5 hc0 hc1 z e = k0_pay7 z e := by
  unfold out0_A_2
  rw [View.read_writes_eq_canon _ _ _ (cover0_A_2 c i a1 h1 a2 h2 a3 h3 a4 h4 a5 h5 hc0 hc1 z e)]
  unfold kernelRun0_A
  dsimp only
  try sl_unfold_words
  rw [View.canon_unit_zero zero3]
  simp only [View.readAt_eq_ld, h1.read_unread, h2.read_unread, View.ld_unit_zero (S := S1x64x1024) zero3,
    View.ld_unit_zero (S := S1024x64) zero2, shapeCast_self]

/-- the index block the indices, -/
theorem outA3 (hc0 : cond0_0 i) (hc1 : ¬cond0_1 i) :
    out0_A_3 c i a1 h1 a2 h2 a3 h3 a4 h4 a5 h5 hc0 hc1 z e = k0_pay5 z e := by
  unfold out0_A_3
  rw [View.read_writes_eq_canon _ _ _ (cover0_A_3 c i a1 h1 a2 h2 a3 h3 a4 h4 a5 h5 hc0 hc1 z e)]
  unfold kernelRun0_A
  dsimp only
  try sl_unfold_words
  rw [View.canon_unit_zero zero3]
  simp only [View.readAt_eq_ld, h1.read_unread, h2.read_unread, View.ld_unit_zero (S := S1x64x1024) zero3,
    View.ld_unit_zero (S := S1024x64) zero2, shapeCast_self]

/-- and the sum's one cell the block's sum of squares. -/
theorem outA4 (hc0 : cond0_0 i) (hc1 : ¬cond0_1 i) :
    out0_A_4 c i a1 h1 a2 h2 a3 h3 a4 h4 a5 h5 hc0 hc1 z e = k0_pay1 (k0_pay3 z) (k0_pay6 z e) := by
  unfold out0_A_4
  rw [View.read_writes_eq_canon _ _ _ (cover0_A_4 c i a1 h1 a2 h2 a3 h3 a4 h4 a5 h5 hc0 hc1 z e)]
  unfold kernelRun0_A
  dsimp only
  try sl_unfold_words
  rw [View.canon_unit_zero zero2]
  simp only [View.readAt_eq_ld, h1.read_unread, h2.read_unread, View.ld_unit_zero (S := S1x64x1024) zero3,
    View.ld_unit_zero (S := S1024x64) zero2, shapeCast_self]

variable (s : Vec F S1x1 .f32)

/-- At a later point the quantized block holds the passed-through latents, -/
theorem outB2 (hc0 : ¬cond0_0 i) (hc1 : cond0_1 i) :
    out0_B_2 c i a1 h1 a2 h2 a3 h3 a4 h4 a5 h5 hc0 hc1 z e s = k0_pay7 z e := by
  unfold out0_B_2
  rw [View.read_writes_eq_canon _ _ _ (cover0_B_2 c i a1 h1 a2 h2 a3 h3 a4 h4 a5 h5 hc0 hc1 z e s)]
  unfold kernelRun0_B
  dsimp only
  try sl_unfold_words
  rw [View.canon_unit_zero zero3]
  simp only [View.readAt_eq_ld, h1.read_unread, h2.read_unread, View.ld_unit_zero (S := S1x64x1024) zero3,
    View.ld_unit_zero (S := S1024x64) zero2, shapeCast_self]

/-- the index block the indices, -/
theorem outB3 (hc0 : ¬cond0_0 i) (hc1 : cond0_1 i) :
    out0_B_3 c i a1 h1 a2 h2 a3 h3 a4 h4 a5 h5 hc0 hc1 z e s = k0_pay5 z e := by
  unfold out0_B_3
  rw [View.read_writes_eq_canon _ _ _ (cover0_B_3 c i a1 h1 a2 h2 a3 h3 a4 h4 a5 h5 hc0 hc1 z e s)]
  unfold kernelRun0_B
  dsimp only
  try sl_unfold_words
  rw [View.canon_unit_zero zero3]
  simp only [View.readAt_eq_ld, h1.read_unread, h2.read_unread, View.ld_unit_zero (S := S1x64x1024) zero3,
    View.ld_unit_zero (S := S1024x64) zero2, shapeCast_self]

/-- and the sum's one cell the running sum plus the block's sum of squares. -/
theorem outB4 (hc0 : ¬cond0_0 i) (hc1 : cond0_1 i) :
    out0_B_4 c i a1 h1 a2 h2 a3 h3 a4 h4 a5 h5 hc0 hc1 z e s = k0_pay2 (k0_pay3 z) (k0_pay6 z e) s := by
  unfold out0_B_4
  rw [View.read_writes_eq_canon _ _ _ (cover0_B_4 c i a1 h1 a2 h2 a3 h3 a4 h4 a5 h5 hc0 hc1 z e s)]
  unfold kernelRun0_B
  dsimp only
  try sl_unfold_words
  rw [View.canon_unit_zero zero2]
  simp only [View.readAt_eq_ld, h1.read_unread, h2.read_unread, h5.read_unread, View.ld_unit_zero (S := S1x64x1024) zero3,
    View.ld_unit_zero (S := S1024x64) zero2, View.ld_unit_zero (S := S1x1) zero2, shapeCast_self]

end Cert.KernelIdeal.Value

end
-- ==== Proof.First.lean ====
/-
  The first index of the least value of a finite family of extended reals, and the two ways a program finds it: by
  scanning (value, index) pairs and keeping the smaller one, and by taking the least index among those whose value is
  the minimum.
-/
module

public import Idealize.ShloMosaic.PureOps.Ideal.Laws
public import Idealize.ShloMosaic.Lib.WordArith
public import Idealize.ShloMosaic.Lib.ValueIdx

@[expose] public section

noncomputable section

namespace Cert.VQ

open Idealize.ShloMosaic

/-- `k` is the first index at which `f` is least. -/
def IsFirst {n : Nat} (f : Fin n → EReal) (k : Fin n) : Prop := (∀ j, f k ≤ f j) ∧ ∀ j, f j = f k → k ≤ j

/-- There is such an index: the least one among those of least value. -/
theorem exists_isFirst (f : Fin 1024 → EReal) : ∃ k, IsFirst f k := by
  obtain ⟨a, -, ha⟩ := Finset.exists_min_image (Finset.univ : Finset (Fin 1024)) f ⟨0, Finset.mem_univ _⟩
  obtain ⟨k, hk, hmin⟩ := Finset.exists_min_image (Finset.univ.filter fun j => f j = f a) id
    ⟨a, Finset.mem_filter.2 ⟨Finset.mem_univ _, rfl⟩⟩
  have hka : f k = f a := (Finset.mem_filter.1 hk).2
  refine ⟨k, fun j => hka ▸ ha j (Finset.mem_univ _), fun j hj => hmin j ?_⟩
  exact Finset.mem_filter.2 ⟨Finset.mem_univ _, hj.trans hka⟩

/-- There is only one. -/
theorem IsFirst.unique {n : Nat} {f : Fin n → EReal} {k l : Fin n} (hk : IsFirst f k) (hl : IsFirst f l) : k = l := by
  have e : f k = f l := le_antisymm (hk.1 l) (hl.1 k)
  exact le_antisymm (hk.2 l e.symm) (hl.2 k e)

/-- The first index of the least value. -/
def first (f : Fin 1024 → EReal) : Fin 1024 := Classical.choose (exists_isFirst f)

theorem first_spec (f : Fin 1024 → EReal) : IsFirst f (first f) := Classical.choose_spec (exists_isFirst f)

/-- An index number below 1024 as a word, read signed. -/
theorem toInt_word (k : Fin 1024) : (BitVec.ofNat 32 k.val).toInt = (k.val : Int) := by
  have := k.isLt
  rw [BitVec.toInt_eq_toNat_of_lt (by rw [BitVec.toNat_ofNat]; omega), BitVec.toNat_ofNat, Nat.mod_eq_of_lt (by omega)]

/-! ## By the minimum -/

/-- The fold of `min` from `⊤` is the least value. -/
theorem fold_min_eq (f : Fin 1024 → EReal) : (Finset.univ : Finset (Fin 1024)).fold min ⊤ f = f (first f) := by
  refine le_antisymm ((Finset.fold_min_le _).2 (Or.inr ⟨first f, Finset.mem_univ _, le_rfl⟩)) ?_
  exact (Finset.le_fold_min _).2 ⟨le_top, fun j _ => (first_spec f).1 j⟩

/-- The signed minimum of two words, read signed, is the minimum of what they read. -/
theorem toInt_minsi (x y : BitVec 32) : (IntOp.minsi x y).toInt = min x.toInt y.toInt := by
  unfold IntOp.minsi
  by_cases h : x.slt y = true
  · rw [if_pos h, min_eq_left (le_of_lt (BitVec.slt_iff_toInt_lt.mp h))]
  · rw [if_neg h, min_eq_right (not_lt.mp fun hlt => h (BitVec.slt_iff_toInt_lt.mpr hlt))]

/-- The least index among those of the least value, the other positions counting as 1024, is the first index. -/
theorem fold_minsi_eq (f : Fin 1024 → EReal) (w : Fin 1024 → BitVec 32)
    (hw : ∀ k, w k = if f k = f (first f) then BitVec.ofNat 32 k.val else 1024#32) :
    (Finset.univ : Finset (Fin 1024)).fold IntOp.minsi 2147483647#32 w = BitVec.ofNat 32 (first f).val := by
  apply BitVec.eq_of_toInt_eq
  have hm : ((Finset.univ : Finset (Fin 1024)).fold IntOp.minsi 2147483647#32 w).toInt
      = (Finset.univ : Finset (Fin 1024)).fold min (2147483647#32 : BitVec 32).toInt (fun k => (w k).toInt) :=
    (Finset.fold_hom (m := BitVec.toInt) (fun x y => (toInt_minsi x y))).symm
  have hwi : ∀ k, (w k).toInt = if f k = f (first f) then (k.val : Int) else 1024 := fun k => by
    rw [hw]; split
    · exact toInt_word k
    · rfl
  rw [hm, toInt_word]
  have hlt := (first f).isLt
  refine le_antisymm ((Finset.fold_min_le _).2 (Or.inr ⟨first f, Finset.mem_univ _, ?_⟩)) ?_
  · rw [hwi, if_pos rfl]
  · refine (Finset.le_fold_min _).2 ⟨?_, fun j _ => ?_⟩
    · have : (2147483647#32 : BitVec 32).toInt = 2147483647 := rfl
      omega
    · rw [hwi]
      split
      · next h => have := (first_spec f).2 j h; exact_mod_cast this
      · omega

/-! ## By scanning pairs -/

/-- The step of a scan for the least pair, as a program writes it, takes the pair of smaller value, and of two pairs of
    one value the smaller index. -/
theorem scan_step (a b : EReal × BitVec 32) :
    ((Scalar.select (IntOp.ori (Ideal.cmp .olt a.1 b.1) (Ideal.cmp .une a.1 a.1)) a.1 b.1 : EReal),
        Scalar.select (IntOp.ori (IntOp.ori (Ideal.cmp .olt a.1 b.1) (Ideal.cmp .une a.1 a.1))
          (IntOp.andi (Ideal.cmp .oeq a.1 b.1) (IntOp.cmpi .slt a.2 b.2))) a.2 b.2)
      = if a.1 < b.1 ∨ (a.1 = b.1 ∧ a.2.toInt < b.2.toInt) then a else b := by
  obtain ⟨x, i⟩ := a
  obtain ⟨y, j⟩ := b
  dsimp only
  simp only [← BitVec.slt_iff_toInt_lt]
  have hor : ∀ b : BitVec 1, 1#1 ||| b = 1#1 := by decide
  by_cases hlt : x < y
  · simp [Scalar.select, IntOp.ori, Ideal.cmp, hlt, hor]
  · by_cases heq : x = y
    · subst heq
      by_cases hs : i.slt j = true
      · simp [Scalar.select, IntOp.ori, IntOp.andi, IntOp.cmpi, Ideal.cmp, hs]
      · simp [Scalar.select, IntOp.ori, IntOp.andi, IntOp.cmpi, Ideal.cmp, hs]
    · simp [Scalar.select, IntOp.ori, IntOp.andi, IntOp.cmpi, Ideal.cmp, hlt, heq]

/-- What a scan with that step leaves: one of the pairs, of least value, and of least index among those of its value. -/
theorem scan_spec (g : EReal × BitVec 32 → EReal × BitVec 32 → EReal × BitVec 32)
    (hg : ∀ a b, g a b = if a.1 < b.1 ∨ (a.1 = b.1 ∧ a.2.toInt < b.2.toInt) then a else b)
    (L : List (EReal × BitVec 32)) : ∀ p0, L.foldl g p0 ∈ p0 :: L ∧ ∀ p ∈ p0 :: L,
      (L.foldl g p0).1 ≤ p.1 ∧ (p.1 = (L.foldl g p0).1 → (L.foldl g p0).2.toInt ≤ p.2.toInt) := by
  induction L with
  | nil =>
    intro p0
    refine ⟨List.mem_singleton.2 rfl, fun p hp => ?_⟩
    obtain rfl := List.mem_singleton.1 hp
    exact ⟨le_rfl, fun _ => le_rfl⟩
  | cons b L ih =>
    intro p0
    obtain ⟨hm, hle⟩ := ih (g p0 b)
    rw [List.foldl_cons]
    generalize L.foldl g (g p0 b) = r at hm hle
    have hstep := hg p0 b
    have h0 := hle (g p0 b) List.mem_cons_self
    have hrest : ∀ p ∈ L, r.1 ≤ p.1 ∧ (p.1 = r.1 → r.2.toInt ≤ p.2.toInt) := fun p hp => hle p (List.mem_cons_of_mem _ hp)
    by_cases hc : p0.1 < b.1 ∨ (p0.1 = b.1 ∧ p0.2.toInt < b.2.toInt)
    · rw [if_pos hc] at hstep
      rw [hstep] at hm h0
      refine ⟨?_, fun p hp => ?_⟩
      · rcases List.mem_cons.1 hm with h | h
        · exact List.mem_cons.2 (Or.inl h)
        · exact List.mem_cons_of_mem _ (List.mem_cons_of_mem _ h)
      · rcases List.mem_cons.1 hp with rfl | hp
        · exact h0
        · rcases List.mem_cons.1 hp with rfl | hp
          · rcases hc with hc | ⟨hc, hi⟩
            · refine ⟨h0.1.trans hc.le, fun e => ?_⟩
              exact absurd (h0.1.trans_lt hc) (by rw [e]; exact lt_irrefl _)
            · exact ⟨hc ▸ h0.1, fun e => (h0.2 (hc.trans e)).trans hi.le⟩
          · exact hrest p hp
    · rw [if_neg hc] at hstep
      rw [hstep] at hm h0
      push Not at hc
      refine ⟨List.mem_cons_of_mem _ hm, fun p hp => ?_⟩
      rcases List.mem_cons.1 hp with rfl | hp
      · refine ⟨h0.1.trans hc.1, fun e => ?_⟩
        have hbe : p.1 = b.1 := le_antisymm (e ▸ h0.1) hc.1
        exact (h0.2 (hbe.symm.trans e)).trans (hc.2 hbe)
      · rcases List.mem_cons.1 hp with rfl | hp
        · exact h0
        · exact hrest p hp

/-- So a scan from the pair `(⊤, 0)` over the pairs `(f k, k)`, in whatever order, leaves the first index of the least
    value. -/
theorem scan_eq_first (g : EReal × BitVec 32 → EReal × BitVec 32 → EReal × BitVec 32)
    (hg : ∀ a b, g a b = if a.1 < b.1 ∨ (a.1 = b.1 ∧ a.2.toInt < b.2.toInt) then a else b)
    (f : Fin 1024 → EReal) (L : List (EReal × BitVec 32))
    (hL : ∀ p, p ∈ L ↔ ∃ k : Fin 1024, p = (f k, BitVec.ofNat 32 k.val)) :
    (L.foldl g (⊤, 0#32)).2 = BitVec.ofNat 32 (first f).val := by
  obtain ⟨hm, hle⟩ := scan_spec g hg L (⊤, 0#32)
  generalize L.foldl g (⊤, 0#32) = r at hm hle
  have hk : ∀ k : Fin 1024, r.1 ≤ f k ∧ (f k = r.1 → r.2.toInt ≤ (k.val : Int)) := fun k => by
    have h := hle (f k, BitVec.ofNat 32 k.val) (List.mem_cons_of_mem _ ((hL _).2 ⟨k, rfl⟩))
    exact ⟨h.1, fun e => toInt_word k ▸ h.2 e⟩
  rcases List.mem_cons.1 hm with rfl | h
  · have htop : ∀ k, f k = ⊤ := fun k => top_le_iff.1 (hk k).1
    have h0 : IsFirst f 0 := ⟨fun j => by rw [htop, htop], fun j _ => Fin.zero_le j⟩
    rw [(first_spec f).unique h0]
    rfl
  · obtain ⟨k, rfl⟩ := (hL _).1 h
    have hf : IsFirst f k := ⟨fun j => (hk j).1, fun j e => by
      have := (hk j).2 e
      rw [toInt_word] at this
      exact_mod_cast this⟩
    rw [(first_spec f).unique hf]

end Cert.VQ

end
-- ==== Proof.Distance.lean ====
/-
  The quantizer's mathematics over the extended reals: the squared distance of a point to every code of a codebook,
  the code it takes, and the equations that let two ways of writing a distance or a square agree at infinities too.
-/
module

public import proofs.«01_k».proof.Proof.First

@[expose] public section

noncomputable section

namespace Cert.VQ

open Idealize.ShloMosaic

/-- The squared distance of the point `z` to code `k` of the codebook `C`, expanded: `|z|² − 2 z·C_k + |C_k|²`. -/
def sqDist (z : Fin 64 → EReal) (C : Fin 1024 → Fin 64 → EReal) (k : Fin 1024) : EReal :=
  ((∑ d, z d * z d) - 2 * ∑ d, z d * C k d) + ∑ d, C k d * C k d

/-- The code the point takes: the first of least distance. -/
def code (z : Fin 64 → EReal) (C : Fin 1024 → Fin 64 → EReal) : Fin 1024 := first (sqDist z C)

/-- The word `0x40000000` is the number two. -/
theorem two_word : Ideal.ofBits .f32 0x40000000#32 = 2 := by
  simp [Ideal.ofBits, Ideal.ieee]
  exact congrArg ((↑) : ℝ → EReal) (show _ = (2 : ℝ) by norm_num)

/-- The word `0x7F800000` is `⊤`. -/
theorem top_word : Ideal.ofBits .f32 0x7F800000#32 = ⊤ := by
  simp [Ideal.ofBits, Ideal.ieee]

/-- Doubling distributes over a sum of products, infinities included. -/
theorem two_mul_sum (z c : Fin 64 → EReal) : 2 * ∑ d, z d * c d = ∑ d, 2 * z d * c d := by
  have h : ∀ s : Finset (Fin 64), 2 * ∑ d ∈ s, z d * c d = ∑ d ∈ s, 2 * z d * c d := fun s => by
    induction s using Finset.induction_on with
    | empty => simp
    | insert a s ha ih =>
      rw [Finset.sum_insert ha, Finset.sum_insert ha, ← ih, mul_assoc]
      exact EReal.left_distrib_of_nonneg_of_ne_top (by norm_num) (by decide) _ _
  exact h _

/-- The square of a difference does not depend on its order, infinities included. -/
theorem sq_sub_comm (a b : EReal) : (a - b) * (a - b) = (b - a) * (b - a) := by
  induction a using EReal.rec with
  | bot => induction b using EReal.rec with
    | bot => rfl
    | top => simp
    | coe y => simp [EReal.coe_sub_bot]
  | top => induction b using EReal.rec with
    | bot => simp
    | top => rfl
    | coe y => simp [EReal.top_sub_coe]
  | coe x => induction b using EReal.rec with
    | bot => simp
    | top => simp
    | coe y => norm_cast; ring

/-- A sum of entries against an indicator is the one entry it indicates, infinities elsewhere included. -/
theorem sum_indicator (c : Fin 1024 → EReal) (k : Fin 1024) :
    ∑ j, c j * (if j = k then 1 else 0) = c k := by
  rw [Finset.sum_eq_single k]
  · simp
  · intro j _ hj; simp [hj]
  · intro h; exact absurd (Finset.mem_univ k) h

end Cert.VQ

end
-- ==== Proof.Block.lean ====
/-
  What the kernel computes of one block of latents and the codebook, element by element: the index of every position,
  the code taken, the passed-through latents and the block's sum of squares.
-/
module

public import proofs.«01_k».proof.Proof.Gen.KernelIdeal.Skeleton
public import proofs.«01_k».proof.Proof.Distance
public import Idealize.ShloMosaic.Lib.Pointwise
public import Idealize.ShloMosaic.Lib.Pipeline.Value

@[expose] public section

noncomputable section

namespace Cert.KernelIdeal.Block

open Cert.KernelIdeal Cert.KernelIdeal.Gen Idealize.ShloMosaic Idealize.ShloMosaic.Pointwise Cert.VQ

/-- The channels of position `t` of a block. -/
def col (z : Vec Ideal S1x64x1024 .f32) (t : Fin 1024) : Fin 64 → EReal := fun d => z (ix3 0 d t)

/-- The codebook by code and channel. -/
def book (e : Vec Ideal S1024x64 .f32) : Fin 1024 → Fin 64 → EReal := fun k d => e (ix2 k d)

variable (z : Vec Ideal S1x64x1024 .f32) (e : Vec Ideal S1024x64 .f32)

/-- The distances, as the kernel computes them. -/
def distances : FVec Ideal S1024x1024 .f32 :=
  addf (subf (broadcastTo S1024x1024 (shapeCast S1024x1
          (multiReduction .add [0] S1024 (mulf (k0_pay3 z) (k0_pay3 z)) 0x00000000#32 reduces_S64x1024_S1024 (.inl rfl) rfl)
          shapeCasts_S1024_S1024x1) broadcasts_S1024x1_S1024x1024)
      (mulf (broadcast S1024x1024 (Scalar.ofBits .f32 0x40000000#32))
        (matmul dot_S64x1024_S1024x64_S1024x1024_0_1_1_0_n_n none (φ₂ := .f32) (k0_pay3 z) e (constant S1024x1024 .f32 0x00000000#32))))
    (broadcastTo S1024x1024 (shapeCast S1x1024
      (multiReduction .add [1] S1024 (mulf e e) 0x00000000#32 reduces_S1024x64_S1024 (.inl rfl) rfl)
      shapeCasts_S1024_S1x1024) broadcasts_S1x1024_S1024x1024)

/-- They are the squared distances of the block's columns to the codes. -/
theorem distances_apply (t k : Fin 1024) : distances z e (ix2 t k) = sqDist (col z t) (book e) k := by
  pointwise [distances, k0_pay3, sqDist, col, book]
  rw [two_word]

/-- The index of position `t` is the code its column takes. -/
theorem pay4_apply (t : Fin 1024) : k0_pay4 z e (ix1 t) = BitVec.ofNat 32 (code (col z t) (book e)).val := by
  have h : k0_pay4 z e = multiReductionI .minsi [1] S1024 (select (cmpf .oeq (distances z e)
      (broadcastTo S1024x1024 (shapeCast S1024x1 (multiReduction .minimumf [1] S1024 (distances z e) 0x7F800000#32 reduces_S1024x1024_S1024 (.inl rfl) rfl) shapeCasts_S1024_S1024x1) broadcasts_S1024x1_S1024x1024))
      (iota .tc S1024x1024 32 [1]) (broadcast S1024x1024 1024#32)) 2147483647#32 reduces_S1024x1024_S1024 rfl := rfl
  rw [h]
  have hd := distances_apply z e
  generalize distances z e = D at hd
  pointwise
  refine fold_minsi_eq (sqDist (col z t) (book e)) _ fun k => ?_
  rw [top_word]
  simp only [hd]
  rw [fold_min_eq]

/-- The indicator of an index, as a number: one where the two words agree, else zero. -/
theorem indicator (j k : Fin 1024) :
    (FloatOps.sitofp FTy.f32 (BitVec.setWidth 32 (IntOp.cmpi .eq (BitVec.ofNat 32 j.val) (BitVec.ofNat 32 k.val))) : Ideal .f32)
      = ((if j = k then 1 else 0 : EReal)) := by
  have hi : (BitVec.ofNat 32 j.val = BitVec.ofNat 32 k.val) ↔ j = k := by
    constructor
    · intro h
      have := congrArg BitVec.toInt h
      rw [toInt_word, toInt_word] at this
      exact Fin.ext (by exact_mod_cast this)
    · rintro rfl; rfl
  by_cases h : j = k
  · subst h
    have e1 : IntOp.cmpi .eq (BitVec.ofNat 32 j.val) (BitVec.ofNat 32 j.val) = 1#1 := by simp [IntOp.cmpi]
    rw [e1, if_pos rfl]
    show (((1#32 : BitVec 32).toInt : ℝ) : EReal) = 1
    simp
  · have e0 : IntOp.cmpi .eq (BitVec.ofNat 32 j.val) (BitVec.ofNat 32 k.val) = 0#1 := by
      have : (BitVec.ofNat 32 j.val == BitVec.ofNat 32 k.val) = false := beq_false_of_ne fun he => h (hi.1 he)
      simp only [IntOp.cmpi, this]
      rfl
    rw [e0, if_neg h]
    show (((0#32 : BitVec 32).toInt : ℝ) : EReal) = 0
    simp

/-- The code vector the block's position `t` is given, by channel. -/
theorem pay6_apply (d : Fin 64) (t : Fin 1024) : k0_pay6 z e (ix2 d t) = book e (code (col z t) (book e)) d := by
  have h := pay4_apply z e
  unfold k0_pay6
  generalize k0_pay4 z e = I at h
  pointwise
  rw [h]
  simp only [indicator]
  exact sum_indicator (fun j => e (ix2 j d)) _

/-- The passed-through latents. -/
theorem pay7_apply (d : Fin 64) (t : Fin 1024) :
    k0_pay7 z e (ix3 0 d t) = col z t d + (book e (code (col z t) (book e)) d - col z t d) := by
  have h := pay6_apply z e
  unfold k0_pay7
  generalize k0_pay6 z e = I at h
  pointwise [k0_pay3]
  rw [h]
  rfl

/-- The index block. -/
theorem pay5_apply (t : Fin 1024) : k0_pay5 z e (ix3 0 0 t) = BitVec.ofNat 32 (code (col z t) (book e)).val := by
  have h := pay4_apply z e
  unfold k0_pay5
  generalize k0_pay4 z e = I at h
  pointwise
  exact h t

/-- A block's sum of squared differences between its latents and the codes they are given. -/
def blockSq : EReal := ∑ d : Fin 64, ∑ t : Fin 1024, (col z t d - book e (code (col z t) (book e)) d)
  * (col z t d - book e (code (col z t) (book e)) d)

theorem pay1_apply (j : S1x1.Idx) : k0_pay1 (k0_pay3 z) (k0_pay6 z e) j = blockSq z e := by
  have h := pay6_apply z e
  unfold k0_pay1
  generalize k0_pay6 z e = I at h
  pointwise [k0_pay3]
  simp only [h]
  rfl

/-- From the second point on it is added to the running sum. -/
theorem pay2_apply (s : Vec Ideal S1x1 .f32) (j : S1x1.Idx) :
    k0_pay2 (k0_pay3 z) (k0_pay6 z e) s j = s j + blockSq z e := by
  have h := pay1_apply z e j
  unfold k0_pay2
  rw [← h]
  simp only [shapeCast_self]
  rfl

end Cert.KernelIdeal.Block

end
-- ==== Proof.Result.lean ====
/-
  The three results as functions of the latents and the codebook: what both programs are shown to compute.
-/
module

public import proofs.«01_k».proof.Proof.Distance

@[expose] public section

noncomputable section

namespace Cert.VQ

/-- Latents by batch element, channel and position. -/
abbrev Latents := Fin 32 → Fin 64 → Fin 1024 → EReal

/-- A codebook by code and channel. -/
abbrev Codes := Fin 1024 → Fin 64 → EReal

/-- The code nearest to the latents at one position. -/
def nearest (x : Latents) (C : Codes) (b : Fin 32) (t : Fin 1024) : Fin 1024 := code (fun d => x b d t) C

/-- The latents plus what takes them to their nearest code. -/
def straight (x : Latents) (C : Codes) (b : Fin 32) (d : Fin 64) (t : Fin 1024) : EReal :=
  x b d t + (C (nearest x C b t) d - x b d t)

/-- The squared distance of the latents to their nearest codes, channel by channel and position by position, in one
    batch element. -/
def batchSq (x : Latents) (C : Codes) (b : Fin 32) : EReal :=
  ∑ d, ∑ t, (x b d t - C (nearest x C b t) d) * (x b d t - C (nearest x C b t) d)

/-- The same over all batch elements. -/
def totalSq (x : Latents) (C : Codes) : EReal := ∑ b, batchSq x C b

end Cert.VQ

end
-- ==== Proof.KernelValue.lean ====
/-
  What the kernel's three result arrays hold after the whole grid: the passed-through latents, the indices and the sum
  of squares, as functions of the two argument arrays.
-/
module

public import proofs.«01_k».proof.Proof.KernelOut
public import proofs.«01_k».proof.Proof.Block
public import proofs.«01_k».proof.Proof.Result
public import Idealize.ShloMosaic.Lib.Pipeline.ValueKit.Geometry
public import Idealize.ShloMosaic.Lib.Pipeline.ValueKit.Acc

@[expose] public section

noncomputable section

namespace Cert.KernelIdeal.Value

open Cert.KernelIdeal Cert.KernelIdeal.Gen Cert.KernelIdeal.Block Cert.VQ
open Idealize.ShloMosaic Idealize.ShloMosaic.Pointwise Idealize.ShloMosaic.TcCoe Idealize.SL.Sem
open Idealize.ShloMosaic.Pipeline (Dat)

variable (m : (ℓ : Loc nD τ sig) → Buf (Elt Ideal) ℓ) (c : Dev nD)

/-- The latents the kernel is given. -/
def lat : Latents := fun b d t => m ((c.tc : Thread nD τ).loc main_arg0) (ix3 b d t)

/-- The codebook the kernel is given. -/
def cod : Codes := book (m ((c.tc : Thread nD τ).loc main_arg1))

/-- The batch element of a grid point. -/
def batch (t : Fin cfg0.N) : Fin 32 := ⟨t.val, t.isLt.trans_eq N_0⟩

/-- The block indices: the batch element leads in the windows over the latents, the quantized latents and the indices;
    the codebook and the sum are each one block. -/
theorem index_eq : ∀ t : Fin cfg0.N, win0_0.index t = ![t.val, 0, 0] ∧ win0_1.index t = ![0, 0] ∧
    win0_2.index t = ![t.val, 0, 0] ∧ win0_3.index t = ![t.val, 0, 0] ∧ win0_4.index t = ![0, 0] :=
  (by decide +kernel : ∀ t : Fin grid0.N, _)

/-- The block of latents at a point is its batch element's. -/
theorem iblk0 (t : Fin cfg0.N) (d : Fin 64) (s : Fin 1024) : iblk m c 0 t (ix3 0 d s) = lat m c (batch t) d s := by
  have h0 := (index_eq t).1
  unfold lat batch
  blk_simp [iblk, h0]
  show m _ _ = m _ _
  congr 1
  funext a
  match a with
  | ⟨0, _⟩ => apply Fin.ext; blk_simp [h0]; rfl
  | ⟨1, _⟩ => apply Fin.ext; blk_simp [h0]
  | ⟨2, _⟩ => apply Fin.ext; blk_simp [h0]

/-- The codebook block is the codebook at every point. -/
theorem iblk1 (t : Fin cfg0.N) : book (iblk m c 1 t) = cod m c := by
  have h0 := (index_eq t).2.1
  funext k d
  unfold cod book
  blk_simp [iblk, h0]
  show m _ _ = m _ _
  congr 1
  funext a
  match a with
  | ⟨0, _⟩ => apply Fin.ext; blk_simp [h0]
  | ⟨1, _⟩ => apply Fin.ext; blk_simp [h0]

theorem col_iblk (t : Fin cfg0.N) (s : Fin 1024) : col (iblk m c 0 t) s = fun d => lat m c (batch t) d s :=
  funext fun d => iblk0 m c t d s

theorem blockSq_iblk (t : Fin cfg0.N) : blockSq (iblk m c 0 t) (iblk m c 1 t) = batchSq (lat m c) (cod m c) (batch t) := by
  unfold blockSq batchSq nearest
  rw [iblk1]
  simp only [col_iblk]

/-- What the body leaves in the two block results at any point. -/
theorem outs_1 (t : Fin cfg0.N) : (outsAt0 m c t.val t.isLt).1 = k0_pay7 (iblk m c 0 t) (iblk m c 1 t) := by
  have hN := t.isLt.trans_eq (show cfg0.N = 32 from N_0)
  by_cases h : t.val % 32 = 0
  · rw [outsAt0_A m c t h (by omega)]; dsimp only; rw [outA2]
  · rw [outsAt0_B m c t h (by omega)]; dsimp only; rw [outB2]

theorem outs_2 (t : Fin cfg0.N) : (outsAt0 m c t.val t.isLt).2.1 = k0_pay5 (iblk m c 0 t) (iblk m c 1 t) := by
  have hN := t.isLt.trans_eq (show cfg0.N = 32 from N_0)
  by_cases h : t.val % 32 = 0
  · rw [outsAt0_A m c t h (by omega)]; dsimp only; rw [outA3]
  · rw [outsAt0_B m c t h (by omega)]; dsimp only; rw [outB3]

/-- The running sum after the last point is the sum over all batch elements. -/
theorem outs_3 (t : Fin cfg0.N) (ht : t.val + 1 = cfg0.N) (j : S1x1.Idx) :
    (outsAt0 m c t.val t.isLt).2.2 j = totalSq (lat m c) (cod m c) := by
  have hN : cfg0.N = 32 := N_0
  have h := Pipeline.eq_sum_fin_of_reset_step_apply_last (fun n hn => (outsAt0 m c n hn).2.2) 32 (fun _ => (0 : EReal))
    (fun t _ => batchSq (lat m c) (cod m c) (batch t))
    (fun t h j => by
      rw [outsAt0_A m c t h (by have := t.isLt; omega), zero_add, ← blockSq_iblk]
      dsimp only; rw [outA4, pay1_apply])
    (fun t h j => by
      rw [outsAt0_B m c t h (by omega), ← blockSq_iblk]
      dsimp only; rw [outB4, pay2_apply])
    hN.le t ht j
  refine h.trans ?_
  rw [zero_add]
  exact Fintype.sum_equiv (finCongr hN) _ _ fun _ => rfl

/-- The first result array holds the passed-through latents. -/
theorem final2 : (dats m 0 c).arrAt 2 cfg0.N = fun i : S32x64x1024.Idx => straight (lat m c) (cod m c) (i 0) (i 1) (i 2) := by
  refine (dats m 0 c).arrAt_eq_of_covers 2 _ (by decide +kernel) fun t hf y => ?_
  blk_simp
  rw [after0_2, outs_1]
  have h0 := (index_eq t).2.2.1
  obtain ⟨d, s, hy⟩ : ∃ (d : Fin 64) (s : Fin 1024), y = ix3 0 d s := ⟨y 1, y 2, funext fun a => by
    match a with
    | ⟨0, _⟩ => exact Subsingleton.elim (α := Fin 1) _ _
    | ⟨1, _⟩ => rfl
    | ⟨2, _⟩ => rfl⟩
  have e0 : (win0_2.blk t).view.emb y (0 : Fin 3) = batch t := by
    apply Fin.ext; blk_simp [h0]; rfl
  have e1 : (win0_2.blk t).view.emb y (1 : Fin 3) = d := by
    apply Fin.ext; blk_simp [h0]; rw [hy]; rfl
  have e2 : (win0_2.blk t).view.emb y (2 : Fin 3) = s := by
    apply Fin.ext; blk_simp [h0]; rw [hy]; rfl
  rw [e0, e1, e2, hy]
  refine (pay7_apply _ _ d s).trans ?_
  unfold straight nearest
  rw [iblk1, col_iblk]

/-- The second the indices. -/
theorem final3 : (dats m 0 c).arrAt 3 cfg0.N = fun i : S32x1x1024.Idx => BitVec.ofNat 32 (nearest (lat m c) (cod m c) (i 0) (i 2)).val := by
  refine (dats m 0 c).arrAt_eq_of_covers 3 _ (by decide +kernel) fun t hf y => ?_
  blk_simp
  rw [after0_3, outs_2]
  have h0 := (index_eq t).2.2.2.1
  obtain ⟨s, hy⟩ : ∃ s : Fin 1024, y = ix3 0 0 s := ⟨y 2, funext fun a => by
    match a with
    | ⟨0, _⟩ => exact Subsingleton.elim (α := Fin 1) _ _
    | ⟨1, _⟩ => exact Subsingleton.elim (α := Fin 1) _ _
    | ⟨2, _⟩ => rfl⟩
  have e0 : (win0_3.blk t).view.emb y (0 : Fin 3) = batch t := by
    apply Fin.ext; blk_simp [h0]; rfl
  have e2 : (win0_3.blk t).view.emb y (2 : Fin 3) = s := by
    apply Fin.ext; blk_simp [h0]; rw [hy]; rfl
  rw [e0, e2, hy]
  refine (pay5_apply _ _ s).trans ?_
  unfold nearest
  rw [iblk1, col_iblk]

/-- The third the sum of squares. -/
theorem final4 : (dats m 0 c).arrAt 4 cfg0.N = fun _ : S1x1.Idx => totalSq (lat m c) (cod m c) := by
  refine (dats m 0 c).arrAt_eq_of_covers 4 _ (by decide +kernel) fun t hf y => ?_
  blk_simp
  rw [after0_4]
  exact outs_3 m c t (by have h := (flush0_4 t).mp hf; have hN : cfg0.N = 32 := N_0; have := t.isLt; omega) _

end Cert.KernelIdeal.Value

end
-- ==== Proof.KernelRun.lean ====
/-
  The kernel program's run: the grid, then the host operations after it, and what the three results hold at the end.
-/
module

public import proofs.«01_k».proof.Proof.KernelValue
public import Idealize.ShloMosaic.Lib.Claim

@[expose] public section

noncomputable section

namespace Cert.KernelIdeal.Value

open Cert.KernelIdeal Cert.KernelIdeal.Gen Cert.VQ
open Idealize.ShloMosaic Idealize.ShloMosaic.Pointwise Idealize.ShloMosaic.TcCoe Idealize.SL.Sem
open Idealize.ShloMosaic.Pipeline (Dat)

/-- The loss of a sum of squares: its mean plus a quarter of its mean. -/
def lossOf (s : EReal) : FVec Ideal S_ .f32 :=
  addf (Host.divf (fun _ => s) (constant (F := Ideal) S_ .f32 0x4A000000#32))
    (mulf (constant (F := Ideal) S_ .f32 0x3E800000#32) (Host.divf (fun _ => s) (constant (F := Ideal) S_ .f32 0x4A000000#32)))

/-- The host operations leave the indices reshaped, -/
theorem tail_v5 (W : Valuation τ sig (Elt Ideal)) : StableHlo.after [hostOps1].flatten W (Proc.devRef .tc main_v5)
    = shapeCast S32x1024 (W (Proc.devRef .tc main_v0_1)) shapeCasts_S32x1x1024_S32x1024 := by
  simp only [List.flatten_cons, List.flatten_nil, List.append_nil]
  after_results_simp <;> rfl

/-- and the loss of the sum's one cell. -/
theorem tail_v4 (W : Valuation τ sig (Elt Ideal)) : StableHlo.after [hostOps1].flatten W (Proc.devRef .tc main_v4)
    = addf (Host.divf (shapeCast S_ (W (Proc.devRef .tc main_v0_2)) shapeCasts_S1x1_S_) (constant (F := Ideal) S_ .f32 0x4A000000#32))
      (mulf (constant (F := Ideal) S_ .f32 0x3E800000#32)
        (Host.divf (shapeCast S_ (W (Proc.devRef .tc main_v0_2)) shapeCasts_S1x1_S_) (constant (F := Ideal) S_ .f32 0x4A000000#32))) := by
  simp only [List.flatten_cons, List.flatten_nil, List.append_nil]
  after_results_simp <;> rfl

/-- Reshaping drops the middle axis. -/
theorem shape_indices (x : IVec S32x1x1024 32) (g : Fin 32 → Fin 1024 → BitVec 32) (hx : x = fun i => g (i 0) (i 2)) :
    shapeCast S32x1024 x shapeCasts_S32x1x1024_S32x1024 = fun i : S32x1024.Idx => g (i 0) (i 1) := by
  subst hx
  funext i
  obtain ⟨b, t, rfl⟩ : ∃ (b : Fin 32) (t : Fin 1024), i = ix2 b t := ⟨i 0, i 1, funext fun a => by
    match a with
    | ⟨0, _⟩ => rfl
    | ⟨1, _⟩ => rfl⟩
  pointwise

/-- The loss computed from a cell that holds `s`. -/
theorem loss_cell (x : FVec Ideal S1x1 .f32) (s : EReal) (hx : x = fun _ => s) :
    addf (Host.divf (shapeCast S_ x shapeCasts_S1x1_S_) (constant (F := Ideal) S_ .f32 0x4A000000#32))
      (mulf (constant (F := Ideal) S_ .f32 0x3E800000#32)
        (Host.divf (shapeCast S_ x shapeCasts_S1x1_S_) (constant (F := Ideal) S_ .f32 0x4A000000#32))) = lossOf s := by
  subst hx
  rfl

variable (m : (ℓ : Loc nD τ sig) → Buf (Elt Ideal) ℓ) (ρ : Dev nD → PrngReg)

/-- The buffers as the grid leaves them. -/
abbrev left (c : Dev nD) : Valuation τ sig (Elt Ideal) :=
  Pipeline.withArrays (cfgs 0).spec c (V0 m c) fun w => (dats m 0 c).arrAt w (cfgs 0).N

theorem at_window3 (c : Dev nD) : left m c (Proc.devRef .tc main_v0_1) = (dats m 0 c).arrAt 3 cfg0.N :=
  Pipeline.withArrays_arr (cfgs 0).spec launch0.win.arr_inj c (V0 m c) (fun w => (dats m 0 c).arrAt w (cfgs 0).N) 3

theorem at_window4 (c : Dev nD) : left m c (Proc.devRef .tc main_v0_2) = (dats m 0 c).arrAt 4 cfg0.N :=
  Pipeline.withArrays_arr (cfgs 0).spec launch0.win.arr_inj c (V0 m c) (fun w => (dats m 0 c).arrAt w (cfgs 0).N) 4

/-- Every run of the kernel program ends with the passed-through latents, the indices and the loss. -/
theorem run : θ_run defs (onTc (τ := τ) (main (F := Ideal))) ⟨m, fun _ => 0, ρ⟩ fun r => ∀ c : Dev nD,
    r.2.mem ((c.tc : Thread nD τ).loc main_v0_0) = (fun i : S32x64x1024.Idx => straight (lat m c) (cod m c) (i 0) (i 1) (i 2))
    ∧ r.2.mem ((c.tc : Thread nD τ).loc main_v5) = (fun i : S32x1024.Idx => BitVec.ofNat 32 (nearest (lat m c) (cod m c) (i 0) (i 1)).val)
    ∧ r.2.mem ((c.tc : Thread nD τ).loc main_v4) = lossOf (totalSq (lat m c) (cod m c))
    ∧ r.2.mem ((c.tc : Thread nD τ).loc main_arg0) = m ((c.tc : Thread nD τ).loc main_arg0)
    ∧ r.2.mem ((c.tc : Thread nD τ).loc main_arg1) = m ((c.tc : Thread nD τ).loc main_arg1) := by
  run_from Cert.KernelIdeal.Gen.run_main m ρ
  · exact final2 m c
  · exact (tail_v5 _).trans (shape_indices _ (fun b t => BitVec.ofNat 32 (nearest (lat m c) (cod m c) b t).val) ((at_window3 m c).trans (final3 m c)))
  · exact (tail_v4 _).trans (loss_cell _ _ ((at_window4 m c).trans (final4 m c)))

end Cert.KernelIdeal.Value

end
-- ==== Proof.RefRun.lean ====
/-
  The reference's run: the reference program's host operations, in the order of its text, and what they leave in the
  arrays it returns, as a term of the two arguments. The term is cut into named steps: the latents with channels last,
  the flat rows, the distances, the chosen index of every row, the rows taken from the codebook, and the three results.
-/
module

public import proofs.«01_k».proof.Proof.Gen.ReferenceIdeal
public import Idealize.ShloMosaic.Lib.StableHlo.Run
public import Idealize.ShloMosaic.Lib.Pipeline.Frame

@[expose] public section

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-! ## The reference's steps -/

/-- The latents with the channel axis last: `[32, 1024, 64]`. -/
def latents (x0 : FVec F S32x64x1024 .f32) : FVec F S32x1024x64 .f32 :=
  transpose S32x1024x64 [0, 2, 1] x0 transposes_S32x64x1024_S32x1024x64_0_2_1

/-- The latents as `32 · 1024` rows of 64 channels. -/
def flat (x0 : FVec F S32x64x1024 .f32) : FVec F S32768x64 .f32 :=
  shapeCast _ (latents x0) shapeCasts_S32x1024x64_S32768x64

/-- Each row's sum of squares, one column. -/
def rowNorms (x0 : FVec F S32x64x1024 .f32) : FVec F S32768 .f32 :=
  Host.reduceAdd (mulf (flat x0) (flat x0)) (constant S_ .f32 0x00000000#32) reducesTo_S32768x64_S32768_d1 h_S_

/-- Each code's sum of squares. -/
def codeNorms (x1 : FVec F S1024x64 .f32) : FVec F S1024 .f32 :=
  Host.reduceAdd (mulf x1 x1) (constant S_ .f32 0x00000000#32) reducesTo_S1024x64_S1024_d1 h_S_

/-- The product of the doubled rows and the codes. -/
def cross (x0 : FVec F S32x64x1024 .f32) (x1 : FVec F S1024x64 .f32) : FVec F S32768x1024 .f32 :=
  Host.dotGeneral dot_S32768x64_S64x1024_S32768x1024_1_0_0_1_n_n none
    (mulf (broadcastInDim S32768x64 ![] bcast_S_S32768x64 (constant S_ .f32 0x40000000#32)) (flat x0))
    (transpose S64x1024 [1, 0] x1 transposes_S1024x64_S64x1024_1_0)

/-- The distance of every row to every code. -/
def dist (x0 : FVec F S32x64x1024 .f32) (x1 : FVec F S1024x64 .f32) : FVec F S32768x1024 .f32 :=
  addf (subf (broadcastInDim S32768x1024 ![0, 1] bcast_S32768x1_S32768x1024_0_1
        (broadcastInDim S32768x1 ![0] bcast_S32768_S32768x1_0 (rowNorms x0)))
      (cross x0 x1))
    (broadcastInDim S32768x1024 ![0, 1] bcast_S1x1024_S32768x1024_0_1
      (broadcastInDim S1x1024 ![1] bcast_S1024_S1x1024_1 (codeNorms x1)))

/-- The index `argmin` leaves for every row of a distance matrix. -/
def argminOf (d : FVec F S32768x1024 .f32) : IVec S32768 32 := fun j =>
  (Host.argReduce reducer_argmin_f32_i32 d (iotaInDim S32768x1024 32 1) (constant S_ .f32 0x7F800000#32)
    (constantI S_ 32 0#32) reducesTo_S32768x1024_S32768_d1 h_S_ j).2

/-- The start indices `take` makes of an index vector: a negative index counts from the end. -/
def starts (i : IVec S32768 32) : IVec S32768x1 32 :=
  broadcastInDim S32768x1 ![0] bcast_S32768_S32768x1_0
    (select (cmpi .slt i (broadcastInDim S32768 ![] bcast_S_S32768 (constantI S_ 32 0#32)))
      (addi i (broadcastInDim S32768 ![] bcast_S_S32768 (constantI S_ 32 1024#32))) i)

/-- Which of the start indices lie in the table. -/
def inTable (i : IVec S32768 32) : IVec S32768 1 :=
  Host.reduce IntOp.andi
    (andi (cmpi .sge (starts i) (broadcastInDim S32768x1 ![] bcast_S_S32768x1 (constantI S_ 32 0#32)))
      (cmpi .sle (starts i) (broadcastInDim S32768x1 ![0, 1] bcast_S1x1_S32768x1_0_1
        (broadcastInDim S1x1 ![1] bcast_S1_S1x1_1 (constantI S1 32 1023#32)))))
    (constantI S_ 1 1#1) reducesTo_S32768x1_S32768_d1 h_S_

/-- The rows `take` reads: the table's row where the start index lies in the table, else the not-a-number word. -/
def takeRows (x1 : FVec F S1024x64 .f32) (i : IVec S32768 32) : FVec F S32768x64 .f32 :=
  select (broadcastInDim S32768x64 ![0] bcast_S32768_S32768x64_0 (inTable i))
    (Host.gather gather_S1024x64_S32768x1_S32768x64_1_0_n_n_0_1_164 x1 (starts i))
    (broadcastInDim S32768x64 ![] bcast_S_S32768x64 (constant S_ .f32 0x7FC00000#32))

/-- The quantized latents, channels last. -/
def quantized (x0 : FVec F S32x64x1024 .f32) (x1 : FVec F S1024x64 .f32) : FVec F S32x1024x64 .f32 :=
  shapeCast _ (takeRows x1 (argminOf (dist x0 x1))) shapeCasts_S32768x64_S32x1024x64

/-- The mean of the squares of an array of latents. -/
def meanSq (d : FVec F S32x1024x64 .f32) : FVec F S_ .f32 :=
  Host.divf (Host.reduceAdd (mulf d d) (constant S_ .f32 0x00000000#32) reducesTo_S32x1024x64_S_d0_1_2 h_S_)
    (constant S_ .f32 0x4A000000#32)

/-- Latents plus (quantized minus latents), channels back in the middle. -/
def passed (z q : FVec F S32x1024x64 .f32) : FVec F S32x64x1024 .f32 :=
  transpose S32x64x1024 [0, 2, 1] (addf z (subf q z)) transposes_S32x1024x64_S32x64x1024_0_2_1

/-- The codebook loss plus a quarter of the commitment loss. -/
def loss (z q : FVec F S32x1024x64 .f32) : FVec F S_ .f32 :=
  addf (meanSq (subf q z)) (mulf (constant S_ .f32 0x3E800000#32) (meanSq (subf z q)))

/-- The first result: latents plus (quantized minus latents), channels back in the middle. -/
def out0 (x0 : FVec F S32x64x1024 .f32) (x1 : FVec F S1024x64 .f32) : FVec F S32x64x1024 .f32 :=
  passed (latents x0) (quantized x0 x1)

/-- The second result: the indices, one row per batch. -/
def out1 (x0 : FVec F S32x64x1024 .f32) (x1 : FVec F S1024x64 .f32) : IVec S32x1024 32 :=
  shapeCast _ (argminOf (dist x0 x1)) shapeCasts_S32768_S32x1024

/-- The third result: the codebook loss plus a quarter of the commitment loss. -/
def out2 (x0 : FVec F S32x64x1024 .f32) (x1 : FVec F S1024x64 .f32) : FVec F S_ .f32 :=
  loss (latents x0) (quantized x0 x1)

/-! ## The operations, in four stretches -/

/-- The operations that compute the distances. -/
abbrev distOps : List (HloOp τ sig (Elt F)) :=
  [ unary main_arg0 main_v0 ((transpose S32x1024x64 [0, 2, 1] · transposes_S32x64x1024_S32x1024x64_0_2_1) : (⟨S32x64x1024, .f32⟩ : BufTy).Contents (Elt F) → (⟨S32x1024x64, .f32⟩ : BufTy).Contents (Elt F)),
    reshape main_v0 main_v1 (rfl : (.f32 : EltTy) = .f32) shapeCasts_S32x1024x64_S32768x64,
    binary main_v1 main_v1 main_v2 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v2 main_cst main_v3 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v3 main_v4 (broadcastInDim S32768x1 ![0] bcast_S32768_S32768x1_0 : (⟨S32768, .f32⟩ : BufTy).Contents (Elt F) → (⟨S32768x1, .f32⟩ : BufTy).Contents (Elt F)),
    nullary main_cst_0 (constant S_ .f32 0x40000000#32),
    unary main_cst_0 main_v5 (broadcastInDim S32768x64 ![] bcast_S_S32768x64 : (⟨S_, .f32⟩ : BufTy).Contents (Elt F) → (⟨S32768x64, .f32⟩ : BufTy).Contents (Elt F)),
    binary main_v5 main_v1 main_v6 (mulf : (⟨S32768x64, .f32⟩ : BufTy).Contents (Elt F) → (⟨S32768x64, .f32⟩ : BufTy).Contents (Elt F) → (⟨S32768x64, .f32⟩ : BufTy).Contents (Elt F)),
    unary main_arg1 main_v7 ((transpose S64x1024 [1, 0] · transposes_S1024x64_S64x1024_1_0) : (⟨S1024x64, .f32⟩ : BufTy).Contents (Elt F) → (⟨S64x1024, .f32⟩ : BufTy).Contents (Elt F)),
    binary main_v6 main_v7 main_v8 ((fun l r => Host.dotGeneral dot_S32768x64_S64x1024_S32768x1024_1_0_0_1_n_n none l r) : (⟨S32768x64, .f32⟩ : BufTy).Contents (Elt F) → (⟨S64x1024, .f32⟩ : BufTy).Contents (Elt F) → (⟨S32768x1024, .f32⟩ : BufTy).Contents (Elt F)),
    unary main_v4 main_v9 (broadcastInDim S32768x1024 ![0, 1] bcast_S32768x1_S32768x1024_0_1 : (⟨S32768x1, .f32⟩ : BufTy).Contents (Elt F) → (⟨S32768x1024, .f32⟩ : BufTy).Contents (Elt F)),
    binary main_v9 main_v8 main_v10 (subf : (⟨S32768x1024, .f32⟩ : BufTy).Contents (Elt F) → (⟨S32768x1024, .f32⟩ : BufTy).Contents (Elt F) → (⟨S32768x1024, .f32⟩ : BufTy).Contents (Elt F)),
    binary main_arg1 main_arg1 main_v11 (mulf : (⟨S1024x64, .f32⟩ : BufTy).Contents (Elt F) → (⟨S1024x64, .f32⟩ : BufTy).Contents (Elt F) → (⟨S1024x64, .f32⟩ : BufTy).Contents (Elt F)),
    nullary main_cst_1 (constant S_ .f32 0x00000000#32),
    binary main_v11 main_cst_1 main_v12 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v12 main_v13 (broadcastInDim S1x1024 ![1] bcast_S1024_S1x1024_1 : (⟨S1024, .f32⟩ : BufTy).Contents (Elt F) → (⟨S1x1024, .f32⟩ : BufTy).Contents (Elt F)),
    unary main_v13 main_v14 (broadcastInDim S32768x1024 ![0, 1] bcast_S1x1024_S32768x1024_0_1 : (⟨S1x1024, .f32⟩ : BufTy).Contents (Elt F) → (⟨S32768x1024, .f32⟩ : BufTy).Contents (Elt F)),
    binary main_v10 main_v14 main_v15 (addf : (⟨S32768x1024, .f32⟩ : BufTy).Contents (Elt F) → (⟨S32768x1024, .f32⟩ : BufTy).Contents (Elt F) → (⟨S32768x1024, .f32⟩ : BufTy).Contents (Elt F)) ]

set_option maxRecDepth 8192 in
/-- They read and write buffers of the core. -/
theorem distOps_sub : (distOps : List (HloOp τ sig (Elt F))).Forall fun op => op.bufs ⊆ tcRefs τ sig :=
  ⟨unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub ..⟩

/-- The operations that compute the indices. -/
abbrev argminOps : List (HloOp τ sig (Elt F)) :=
  [ TRef.nullary (TRef.of (T := ⟨S32768x1024, .i32⟩) main_call0_v0) (iotaInDim S32768x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .f32⟩) main_call0_v1_0) (fun x y u v j => (Host.argReduce reducer_argmin_f32_i32 x y u v reducesTo_S32768x1024_S32768_d1 h_S_ j).1),
    TRef.quaternary (TRef.of (T := ⟨S32768x1024, .f32⟩) main_v15) (TRef.of (T := ⟨S32768x1024, .i32⟩) main_call0_v0) (TRef.of (T := ⟨S_, .f32⟩) main_call0_cst) (TRef.of (T := ⟨S_, .i32⟩) main_call0_c) (TRef.of (T := ⟨S32768, .i32⟩) main_v16) (fun x y u v j => (Host.argReduce reducer_argmin_f32_i32 x y u v reducesTo_S32768x1024_S32768_d1 h_S_ j).2) ]

set_option maxRecDepth 8192 in
/-- They read and write buffers of the core. -/
theorem argminOps_sub : (argminOps : List (HloOp τ sig (Elt F))).Forall fun op => op.bufs ⊆ tcRefs τ sig :=
  ⟨nullary_bufs_sub .., nullary_bufs_sub .., nullary_bufs_sub .., quaternary_bufs_sub .., quaternary_bufs_sub ..⟩

/-- The operations that compute the rows taken. -/
abbrev takeOps : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S32768, .i32⟩) main_call1_v0) (broadcastInDim S32768 ![] bcast_S_S32768),
    TRef.binary (TRef.of (T := ⟨S32768, .i32⟩) main_v16) (TRef.of (T := ⟨S32768, .i32⟩) main_call1_v0) (TRef.of (T := ⟨S32768, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S32768, .i32⟩) main_call1_v2) (broadcastInDim S32768 ![] bcast_S_S32768),
    TRef.binary (TRef.of (T := ⟨S32768, .i32⟩) main_v16) (TRef.of (T := ⟨S32768, .i32⟩) main_call1_v2) (TRef.of (T := ⟨S32768, .i32⟩) main_call1_v3) addi,
    TRef.ternary (TRef.of (T := ⟨S32768, .i1⟩) main_call1_v1) (TRef.of (T := ⟨S32768, .i32⟩) main_call1_v3) (TRef.of (T := ⟨S32768, .i32⟩) main_v16) (TRef.of (T := ⟨S32768, .i32⟩) main_call1_v4) select,
    TRef.unary (TRef.of (T := ⟨S32768, .i32⟩) main_call1_v4) (TRef.of (T := ⟨S32768x1, .i32⟩) main_call1_v5) (broadcastInDim S32768x1 ![0] bcast_S32768_S32768x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S32768x1, .i32⟩) main_call1_v6) (broadcastInDim S32768x1 ![] bcast_S_S32768x1),
    TRef.binary (TRef.of (T := ⟨S32768x1, .i32⟩) main_call1_v5) (TRef.of (T := ⟨S32768x1, .i32⟩) main_call1_v6) (TRef.of (T := ⟨S32768x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S32768x1, .i32⟩) main_call1_v9) (broadcastInDim S32768x1 ![0, 1] bcast_S1x1_S32768x1_0_1),
    TRef.binary (TRef.of (T := ⟨S32768x1, .i32⟩) main_call1_v5) (TRef.of (T := ⟨S32768x1, .i32⟩) main_call1_v9) (TRef.of (T := ⟨S32768x1, .i1⟩) main_call1_v10) (cmpi .sle),
    TRef.binary (TRef.of (T := ⟨S32768x1, .i1⟩) main_call1_v7) (TRef.of (T := ⟨S32768x1, .i1⟩) main_call1_v10) (TRef.of (T := ⟨S32768x1, .i1⟩) main_call1_v11) andi,
    TRef.nullary (TRef.of (T := ⟨S_, .i1⟩) main_call1_c_3) (constantI S_ 1 1#1),
    TRef.binary (TRef.of (T := ⟨S32768x1, .i1⟩) main_call1_v11) (TRef.of (T := ⟨S_, .i1⟩) main_call1_c_3) (TRef.of (T := ⟨S32768, .i1⟩) main_call1_v12) (fun x v => Host.reduce IntOp.andi x v reducesTo_S32768x1_S32768_d1 h_S_),
    TRef.binary (TRef.of (T := ⟨S1024x64, .f32⟩) main_arg1) (TRef.of (T := ⟨S32768x1, .i32⟩) main_call1_v5) (TRef.of (T := ⟨S32768x64, .f32⟩) main_call1_v13) (fun x i => Host.gather gather_S1024x64_S32768x1_S32768x64_1_0_n_n_0_1_164 x i),
    TRef.unary (TRef.of (T := ⟨S32768, .i1⟩) main_call1_v12) (TRef.of (T := ⟨S32768x64, .i1⟩) main_call1_v14) (broadcastInDim S32768x64 ![0] bcast_S32768_S32768x64_0),
    TRef.nullary (TRef.of (T := ⟨S_, .f32⟩) main_call1_cst) (constant S_ .f32 0x7FC00000#32),
    TRef.unary (TRef.of (T := ⟨S_, .f32⟩) main_call1_cst) (TRef.of (T := ⟨S32768x64, .f32⟩) main_call1_v15) (broadcastInDim S32768x64 ![] bcast_S_S32768x64),
    TRef.ternary (TRef.of (T := ⟨S32768x64, .i1⟩) main_call1_v14) (TRef.of (T := ⟨S32768x64, .f32⟩) main_call1_v13) (TRef.of (T := ⟨S32768x64, .f32⟩) main_call1_v15) (TRef.of (T := ⟨S32768x64, .f32⟩) main_v17) select,
    reshape main_v17 main_v18 (rfl : (.f32 : EltTy) = .f32) shapeCasts_S32768x64_S32x1024x64 ]

set_option maxRecDepth 8192 in
/-- They read and write buffers of the core. -/
theorem takeOps_sub : (takeOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub ..⟩

/-- The operations that compute the results. -/
abbrev tailOps : List (HloOp τ sig (Elt F)) :=
  [ binary main_v0 main_v18 main_v19 (subf : (⟨S32x1024x64, .f32⟩ : BufTy).Contents (Elt F) → (⟨S32x1024x64, .f32⟩ : BufTy).Contents (Elt F) → (⟨S32x1024x64, .f32⟩ : BufTy).Contents (Elt F)),
    binary main_v19 main_v19 main_v20 (mulf : (⟨S32x1024x64, .f32⟩ : BufTy).Contents (Elt F) → (⟨S32x1024x64, .f32⟩ : BufTy).Contents (Elt F) → (⟨S32x1024x64, .f32⟩ : BufTy).Contents (Elt F)),
    nullary main_cst_2 (constant S_ .f32 0x00000000#32),
    binary main_v20 main_cst_2 main_v21 ((fun x v => Host.reduceAdd x v reducesTo_S32x1024x64_S_d0_1_2 h_S_) : (⟨S32x1024x64, .f32⟩ : BufTy).Contents (Elt F) → (⟨S_, .f32⟩ : BufTy).Contents (Elt F) → (⟨S_, .f32⟩ : BufTy).Contents (Elt F)),
    nullary main_cst_3 (constant S_ .f32 0x4A000000#32),
    binary main_v21 main_cst_3 main_v22 (Host.divf : (⟨S_, .f32⟩ : BufTy).Contents (Elt F) → (⟨S_, .f32⟩ : BufTy).Contents (Elt F) → (⟨S_, .f32⟩ : BufTy).Contents (Elt F)),
    binary main_v18 main_v0 main_v23 (subf : (⟨S32x1024x64, .f32⟩ : BufTy).Contents (Elt F) → (⟨S32x1024x64, .f32⟩ : BufTy).Contents (Elt F) → (⟨S32x1024x64, .f32⟩ : BufTy).Contents (Elt F)),
    binary main_v23 main_v23 main_v24 (mulf : (⟨S32x1024x64, .f32⟩ : BufTy).Contents (Elt F) → (⟨S32x1024x64, .f32⟩ : BufTy).Contents (Elt F) → (⟨S32x1024x64, .f32⟩ : BufTy).Contents (Elt F)),
    nullary main_cst_4 (constant S_ .f32 0x00000000#32),
    binary main_v24 main_cst_4 main_v25 ((fun x v => Host.reduceAdd x v reducesTo_S32x1024x64_S_d0_1_2 h_S_) : (⟨S32x1024x64, .f32⟩ : BufTy).Contents (Elt F) → (⟨S_, .f32⟩ : BufTy).Contents (Elt F) → (⟨S_, .f32⟩ : BufTy).Contents (Elt F)),
    nullary main_cst_5 (constant S_ .f32 0x4A000000#32),
    binary main_v25 main_cst_5 main_v26 (Host.divf : (⟨S_, .f32⟩ : BufTy).Contents (Elt F) → (⟨S_, .f32⟩ : BufTy).Contents (Elt F) → (⟨S_, .f32⟩ : BufTy).Contents (Elt F)),
    nullary main_cst_6 (constant S_ .f32 0x3E800000#32),
    binary main_cst_6 main_v22 main_v27 (mulf : (⟨S_, .f32⟩ : BufTy).Contents (Elt F) → (⟨S_, .f32⟩ : BufTy).Contents (Elt F) → (⟨S_, .f32⟩ : BufTy).Contents (Elt F)),
    binary main_v26 main_v27 main_v28 (addf : (⟨S_, .f32⟩ : BufTy).Contents (Elt F) → (⟨S_, .f32⟩ : BufTy).Contents (Elt F) → (⟨S_, .f32⟩ : BufTy).Contents (Elt F)),
    binary main_v18 main_v0 main_v29 (subf : (⟨S32x1024x64, .f32⟩ : BufTy).Contents (Elt F) → (⟨S32x1024x64, .f32⟩ : BufTy).Contents (Elt F) → (⟨S32x1024x64, .f32⟩ : BufTy).Contents (Elt F)),
    binary main_v0 main_v29 main_v30 (addf : (⟨S32x1024x64, .f32⟩ : BufTy).Contents (Elt F) → (⟨S32x1024x64, .f32⟩ : BufTy).Contents (Elt F) → (⟨S32x1024x64, .f32⟩ : BufTy).Contents (Elt F)),
    unary main_v30 main_v31 ((transpose S32x64x1024 [0, 2, 1] · transposes_S32x1024x64_S32x64x1024_0_2_1) : (⟨S32x1024x64, .f32⟩ : BufTy).Contents (Elt F) → (⟨S32x64x1024, .f32⟩ : BufTy).Contents (Elt F)),
    reshape main_v16 main_v32 (rfl : (.i32 : EltTy) = .i32) shapeCasts_S32768_S32x1024 ]

set_option maxRecDepth 8192 in
/-- They read and write buffers of the core. -/
theorem tailOps_sub : (tailOps : List (HloOp τ sig (Elt F))).Forall fun op => op.bufs ⊆ tcRefs τ sig :=
  ⟨binary_bufs_sub .., binary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., binary_bufs_sub .., binary_bufs_sub .., unary_bufs_sub .., reshape_bufs_sub ..⟩

/-- The program's 67 operations, in order; those of the called functions stand in the call's place. -/
abbrev ops : List (HloOp τ sig (Elt F)) := distOps ++ (argminOps ++ (takeOps ++ tailOps))

set_option maxRecDepth 8192 in
set_option maxHeartbeats 4000000 in
/-- The program is the sequence of these operations. -/
theorem main_eq (c : Dev nD) : main (F := F) c = seq ops := rfl

/-- The program has no scoped buffer, -/
theorem scopedRefs_eq : (Finset.univ.filter fun b : Ref sig .tc => b.isScoped) = ∅ := by decide

/-- and no scoped semaphore. -/
theorem scopedSems_eq : (Finset.univ.filter fun sm : SemLoc sig => sm.isScoped .tc) = ∅ := by decide

/-- Every operation reads and writes buffers of the core. -/
theorem ops_sub : (ops : List (HloOp τ sig (Elt F))).Forall fun op => op.bufs ⊆ tcRefs τ sig := by
  rw [List.forall_iff_forall_mem]
  intro op hop
  simp only [ops, List.mem_append] at hop
  rcases hop with h | h | h | h
  · exact (List.forall_iff_forall_mem.mp distOps_sub) op h
  · exact (List.forall_iff_forall_mem.mp argminOps_sub) op h
  · exact (List.forall_iff_forall_mem.mp takeOps_sub) op h
  · exact (List.forall_iff_forall_mem.mp tailOps_sub) op h

/-! ## What each stretch leaves -/

variable (V : Valuation τ sig (Elt F))

set_option maxRecDepth 8192 in
set_option maxHeartbeats 4000000 in
/-- The first stretch leaves the latents, channels last, -/
theorem dist_v0 : after distOps V (Proc.devRef .tc main_v0) = latents (V (Proc.devRef .tc main_arg0)) := by
  simp only [distOps, TRef.binary, TRef.nullary, TRef.ternary, TRef.quaternary, TRef.unary, TRef.toBuf, TRef.ofBuf, cast_eq]
  after_results_simp <;> rfl

set_option maxRecDepth 8192 in
set_option maxHeartbeats 4000000 in
/-- the distances, -/
theorem dist_v15 : after distOps V (Proc.devRef .tc main_v15) = dist (V (Proc.devRef .tc main_arg0)) (V (Proc.devRef .tc main_arg1)) := by
  simp only [distOps, TRef.binary, TRef.nullary, TRef.ternary, TRef.quaternary, TRef.unary, TRef.toBuf, TRef.ofBuf, cast_eq]
  after_results_simp <;> rfl

set_option maxRecDepth 8192 in
set_option maxHeartbeats 4000000 in
/-- the first argument unchanged, -/
theorem dist_arg0 : after distOps V (Proc.devRef .tc main_arg0) = V (Proc.devRef .tc main_arg0) := by
  simp only [distOps, TRef.binary, TRef.nullary, TRef.ternary, TRef.quaternary, TRef.unary, TRef.toBuf, TRef.ofBuf, cast_eq]
  after_results_simp <;> rfl

set_option maxRecDepth 8192 in
set_option maxHeartbeats 4000000 in
/-- and the second. -/
theorem dist_arg1 : after distOps V (Proc.devRef .tc main_arg1) = V (Proc.devRef .tc main_arg1) := by
  simp only [distOps, TRef.binary, TRef.nullary, TRef.ternary, TRef.quaternary, TRef.unary, TRef.toBuf, TRef.ofBuf, cast_eq]
  after_results_simp <;> rfl

set_option maxRecDepth 8192 in
set_option maxHeartbeats 4000000 in
/-- The second stretch leaves the indices of the least distances, -/
theorem argmin_v16 : after argminOps V (Proc.devRef .tc main_v16) = argminOf (V (Proc.devRef .tc main_v15)) := by
  simp only [argminOps, TRef.binary, TRef.nullary, TRef.ternary, TRef.quaternary, TRef.unary, TRef.toBuf, TRef.ofBuf, cast_eq]
  after_results_simp <;> rfl

set_option maxRecDepth 8192 in
set_option maxHeartbeats 4000000 in
/-- and `main_v0` unchanged. -/
theorem argmin_v0 : after argminOps V (Proc.devRef .tc main_v0) = V (Proc.devRef .tc main_v0) := by
  simp only [argminOps, TRef.binary, TRef.nullary, TRef.ternary, TRef.quaternary, TRef.unary, TRef.toBuf, TRef.ofBuf, cast_eq]
  after_results_simp <;> rfl

set_option maxRecDepth 8192 in
set_option maxHeartbeats 4000000 in
/-- and `main_arg0` unchanged. -/
theorem argmin_arg0 : after argminOps V (Proc.devRef .tc main_arg0) = V (Proc.devRef .tc main_arg0) := by
  simp only [argminOps, TRef.binary, TRef.nullary, TRef.ternary, TRef.quaternary, TRef.unary, TRef.toBuf, TRef.ofBuf, cast_eq]
  after_results_simp <;> rfl

set_option maxRecDepth 8192 in
set_option maxHeartbeats 4000000 in
/-- and `main_arg1` unchanged. -/
theorem argmin_arg1 : after argminOps V (Proc.devRef .tc main_arg1) = V (Proc.devRef .tc main_arg1) := by
  simp only [argminOps, TRef.binary, TRef.nullary, TRef.ternary, TRef.quaternary, TRef.unary, TRef.toBuf, TRef.ofBuf, cast_eq]
  after_results_simp <;> rfl

set_option maxRecDepth 8192 in
set_option maxHeartbeats 4000000 in
/-- The third stretch leaves the rows taken, -/
theorem take_v18 : after takeOps V (Proc.devRef .tc main_v18) = shapeCast S32x1024x64 (takeRows (V (Proc.devRef .tc main_arg1)) (V (Proc.devRef .tc main_v16))) shapeCasts_S32768x64_S32x1024x64 := by
  simp only [takeOps, TRef.binary, TRef.nullary, TRef.ternary, TRef.quaternary, TRef.unary, TRef.toBuf, TRef.ofBuf, cast_eq]
  after_results_simp <;> rfl

set_option maxRecDepth 8192 in
set_option maxHeartbeats 4000000 in
/-- and `main_v0` unchanged. -/
theorem take_v0 : after takeOps V (Proc.devRef .tc main_v0) = V (Proc.devRef .tc main_v0) := by
  simp only [takeOps, TRef.binary, TRef.nullary, TRef.ternary, TRef.quaternary, TRef.unary, TRef.toBuf, TRef.ofBuf, cast_eq]
  after_results_simp <;> rfl

set_option maxRecDepth 8192 in
set_option maxHeartbeats 4000000 in
/-- and `main_v16` unchanged. -/
theorem take_v16 : after takeOps V (Proc.devRef .tc main_v16) = V (Proc.devRef .tc main_v16) := by
  simp only [takeOps, TRef.binary, TRef.nullary, TRef.ternary, TRef.quaternary, TRef.unary, TRef.toBuf, TRef.ofBuf, cast_eq]
  after_results_simp <;> rfl

set_option maxRecDepth 8192 in
set_option maxHeartbeats 4000000 in
/-- and `main_arg0` unchanged. -/
theorem take_arg0 : after takeOps V (Proc.devRef .tc main_arg0) = V (Proc.devRef .tc main_arg0) := by
  simp only [takeOps, TRef.binary, TRef.nullary, TRef.ternary, TRef.quaternary, TRef.unary, TRef.toBuf, TRef.ofBuf, cast_eq]
  after_results_simp <;> rfl

set_option maxRecDepth 8192 in
set_option maxHeartbeats 4000000 in
/-- and `main_arg1` unchanged. -/
theorem take_arg1 : after takeOps V (Proc.devRef .tc main_arg1) = V (Proc.devRef .tc main_arg1) := by
  simp only [takeOps, TRef.binary, TRef.nullary, TRef.ternary, TRef.quaternary, TRef.unary, TRef.toBuf, TRef.ofBuf, cast_eq]
  after_results_simp <;> rfl

set_option maxRecDepth 8192 in
set_option maxHeartbeats 4000000 in
/-- The last stretch leaves the passed-through latents, -/
theorem tail_v31 : after tailOps V (Proc.devRef .tc main_v31) = passed (V (Proc.devRef .tc main_v0)) (V (Proc.devRef .tc main_v18)) := by
  simp only [tailOps, TRef.binary, TRef.nullary, TRef.ternary, TRef.quaternary, TRef.unary, TRef.toBuf, TRef.ofBuf, cast_eq]
  after_results_simp <;> rfl

set_option maxRecDepth 8192 in
set_option maxHeartbeats 4000000 in
/-- the loss, -/
theorem tail_v28 : after tailOps V (Proc.devRef .tc main_v28) = loss (V (Proc.devRef .tc main_v0)) (V (Proc.devRef .tc main_v18)) := by
  simp only [tailOps, TRef.binary, TRef.nullary, TRef.ternary, TRef.quaternary, TRef.unary, TRef.toBuf, TRef.ofBuf, cast_eq]
  after_results_simp <;> rfl

set_option maxRecDepth 8192 in
set_option maxHeartbeats 4000000 in
/-- the indices by batch, -/
theorem tail_v32 : after tailOps V (Proc.devRef .tc main_v32) = shapeCast S32x1024 (V (Proc.devRef .tc main_v16)) shapeCasts_S32768_S32x1024 := by
  simp only [tailOps, TRef.binary, TRef.nullary, TRef.ternary, TRef.quaternary, TRef.unary, TRef.toBuf, TRef.ofBuf, cast_eq]
  after_results_simp <;> rfl

set_option maxRecDepth 8192 in
set_option maxHeartbeats 4000000 in
/-- and `main_arg0` unchanged. -/
theorem tail_arg0 : after tailOps V (Proc.devRef .tc main_arg0) = V (Proc.devRef .tc main_arg0) := by
  simp only [tailOps, TRef.binary, TRef.nullary, TRef.ternary, TRef.quaternary, TRef.unary, TRef.toBuf, TRef.ofBuf, cast_eq]
  after_results_simp <;> rfl

set_option maxRecDepth 8192 in
set_option maxHeartbeats 4000000 in
/-- and `main_arg1` unchanged. -/
theorem tail_arg1 : after tailOps V (Proc.devRef .tc main_arg1) = V (Proc.devRef .tc main_arg1) := by
  simp only [tailOps, TRef.binary, TRef.nullary, TRef.ternary, TRef.quaternary, TRef.unary, TRef.toBuf, TRef.ofBuf, cast_eq]
  after_results_simp <;> rfl

/-! ## The run -/

/-- Every weakly fair execution from zero counters terminates with the three results at the steps' values of the
    arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v31)
          = out0 (m ((c.tc : Thread nD τ).loc main_arg0)) (m ((c.tc : Thread nD τ).loc main_arg1))
      ∧ r.2.mem ((c.tc : Thread nD τ).loc main_v32)
          = out1 (m ((c.tc : Thread nD τ).loc main_arg0)) (m ((c.tc : Thread nD τ).loc main_arg1))
      ∧ r.2.mem ((c.tc : Thread nD τ).loc main_v28)
          = out2 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ⟨(h c main_v31).trans ?_, (h c main_v32).trans ?_, (h c main_v28).trans ?_,
    (h c main_arg0).trans ?_, (h c main_arg1).trans ?_⟩)
    (run_seq scopedRefs_eq scopedSems_eq defs main (fun _ => ops) main_eq (fun _ => ops_sub) m ρ)
  · simp only [ops, after_append]
    rw [tail_v31, take_v18, take_v0, argmin_v16, argmin_v0, argmin_arg1, dist_v15, dist_v0, dist_arg1]
    rfl
  · simp only [ops, after_append]
    rw [tail_v32, take_v16, argmin_v16, dist_v15]
    rfl
  · simp only [ops, after_append]
    rw [tail_v28, take_v18, take_v0, argmin_v16, argmin_v0, argmin_arg1, dist_v15, dist_v0, dist_arg1]
    rfl
  · simp only [ops, after_append]
    rw [tail_arg0, take_arg0, argmin_arg0, dist_arg0]
  · simp only [ops, after_append]
    rw [tail_arg1, take_arg1, argmin_arg1, dist_arg1]

end Cert.ReferenceIdeal.Run

end
-- ==== Proof.RefDist.lean ====
/-
  The reference's distances, element by element: the squared distance of each position's latents to each code.
-/
module

public import proofs.«01_k».proof.Proof.RefRun
public import proofs.«01_k».proof.Proof.Result
public import Idealize.ShloMosaic.Lib.Pointwise

@[expose] public section

noncomputable section

namespace Cert.ReferenceIdeal.Run

open Cert.ReferenceIdeal Cert.ReferenceIdeal.Gen Idealize.ShloMosaic Idealize.ShloMosaic.Pointwise Cert.VQ

/-- The row of a batch element's position. -/
def row (b : Fin 32) (t : Fin 1024) : Fin 32768 := ⟨b.val * 1024 + t.val, by omega⟩

variable (x0 : FVec Ideal S32x64x1024 .f32) (x1 : FVec Ideal S1024x64 .f32)

/-- The latents the reference is given. -/
def lat : Latents := fun b d t => x0 (ix3 b d t)

/-- The codebook the reference is given. -/
def cod : Codes := fun k d => x1 (ix2 k d)

theorem latents_apply (b : Fin 32) (t : Fin 1024) (d : Fin 64) : latents x0 (ix3 b t d) = lat x0 b d t := by
  pointwise [latents, lat]

theorem flat_apply (b : Fin 32) (t : Fin 1024) (d : Fin 64) : flat x0 (ix2 (row b t) d) = lat x0 b d t := by
  rw [← latents_apply]
  pointwise [flat, row]

theorem dist_apply (b : Fin 32) (t k : Fin 1024) :
    dist x0 x1 (ix2 (row b t) k) = sqDist (fun d => lat x0 b d t) (cod x1) k := by
  have h := flat_apply x0 b t
  unfold dist rowNorms codeNorms cross
  generalize flat x0 = f at h
  pointwise [sqDist, cod]
  simp only [h, two_word]
  rw [two_mul_sum]

end Cert.ReferenceIdeal.Run

end
-- ==== Proof.RefIndex.lean ====
/-
  The index the reference chooses for a row: the first code of least distance.
-/
module

public import proofs.«01_k».proof.Proof.RefDist
public import proofs.«01_k».proof.Proof.First

@[expose] public section

noncomputable section

namespace Cert.ReferenceIdeal.Run

open Cert.ReferenceIdeal Cert.ReferenceIdeal.Gen Idealize.ShloMosaic Idealize.ShloMosaic.Pointwise Cert.VQ

/-- Dropping the columns of a row-and-column index leaves the row. -/
theorem reduces_cols : S32768x1024.Reduces [1] S32768 := by decide

theorem lift_cols (r : Fin 32768) (k : Fin 1024) : reduces_cols.lift (ix1 r) k = ix2 r k := by
  funext a
  apply Fin.ext
  refine (reduces_cols.lift_val (ix1 r) k a).trans ?_
  match a with
  | ⟨0, _⟩ => rfl
  | ⟨1, _⟩ => rfl

/-- The pairs the reduction visits for row `r` are that row's values with their column numbers. -/
theorem mem_fiber (D : FVec Ideal S32768x1024 .f32) (r : Fin 32768) (p : EReal × BitVec 32) :
    p ∈ Host.argReduceFiber D (iotaInDim S32768x1024 32 1) reducesTo_S32768x1024_S32768_d1 (ix1 r)
      ↔ ∃ k : Fin 1024, p = (D (ix2 r k), BitVec.ofNat 32 k.val) := by
  unfold Host.argReduceFiber
  rw [Shape.ReducesTo.drop_eq_drop _ reduces_cols]
  simp only [List.mem_map, List.mem_filter, List.mem_finRange, true_and, decide_eq_true_eq]
  constructor
  · rintro ⟨n, hn, rfl⟩
    generalize S32768x1024.rowMajor.symm n = i at hn ⊢
    have hi := reduces_cols.lift_drop i
    rw [hn] at hi
    have hc : i = ix2 r (i 1) := hi.symm.trans (lift_cols r (i 1))
    exact ⟨i 1, congrArg (fun j => (D j, iotaInDim S32768x1024 32 1 j)) hc⟩
  · rintro ⟨k, rfl⟩
    refine ⟨S32768x1024.rowMajor (ix2 r k), ?_, ?_⟩
    · rw [Equiv.symm_apply_apply, ← lift_cols]
      exact reduces_cols.drop_lift (ix1 r) k
    · rw [Equiv.symm_apply_apply]; rfl

/-- The index vector is the second half of the reduction's pairs. -/
theorem argminOf_eq (D : FVec Ideal S32768x1024 .f32) : argminOf D
    = Prod.snd ∘ Host.argReduce (reducer_argmin_f32_i32 (F := Ideal)) D (iotaInDim S32768x1024 32 1)
      (constant S_ .f32 0x7F800000#32) (constantI S_ 32 0#32) reducesTo_S32768x1024_S32768_d1 h_S_ := rfl

/-- The index left for a row is its first least column. -/
theorem argminOf_apply (D : FVec Ideal S32768x1024 .f32) (r : Fin 32768) :
    argminOf D (ix1 r) = BitVec.ofNat 32 (first fun k => D (ix2 r k)).val := by
  rw [argminOf_eq, Ideal.argReduce_eq_reduce2, Function.comp_apply, Host.reduce2_eq_foldl_fiber]
  have ht : (constant (F := Ideal) S_ .f32 0x7F800000#32) (Shape.Idx.first h_S_) = ⊤ := top_word
  have hi : (constantI S_ 32 0#32) (Shape.Idx.first h_S_) = 0#32 := rfl
  rw [ht, hi]
  have hL := mem_fiber D r
  generalize Host.argReduceFiber D (iotaInDim S32768x1024 32 1) reducesTo_S32768x1024_S32768_d1 (ix1 r) = L at hL ⊢
  have hg : ∀ a b : EReal × BitVec 32, reducer_argmin_f32_i32 (F := Ideal) a b
      = if a.1 < b.1 ∨ (a.1 = b.1 ∧ a.2.toInt < b.2.toInt) then a else b := fun a b => scan_step a b
  exact scan_eq_first _ hg _ L hL

variable (x0 : FVec Ideal S32x64x1024 .f32) (x1 : FVec Ideal S1024x64 .f32)

/-- The index of a batch element's position is the code nearest to its latents. -/
theorem index_apply (b : Fin 32) (t : Fin 1024) :
    argminOf (dist x0 x1) (ix1 (row b t)) = BitVec.ofNat 32 (nearest (lat x0) (cod x1) b t).val := by
  rw [argminOf_apply]
  simp only [dist_apply]
  rfl

end Cert.ReferenceIdeal.Run

end
-- ==== Proof.RefTake.lean ====
/-
  The rows the reference takes from the codebook, at indices that lie in it.
-/
module

public import proofs.«01_k».proof.Proof.RefRun
public import Idealize.ShloMosaic.Lib.Pointwise
public import Idealize.ShloMosaic.Lib.Routing.Ops

@[expose] public section

noncomputable section

namespace Cert.ReferenceIdeal.Run

open Cert.ReferenceIdeal Cert.ReferenceIdeal.Gen Idealize.ShloMosaic Idealize.ShloMosaic.Pointwise

variable (x1 : FVec Ideal S1024x64 .f32) (i : IVec S32768 32) (r : Fin 32768) (k : Fin 1024)

/-- An index that is not negative is its own start index. -/
theorem starts_apply (h : i (ix1 r) = BitVec.ofNat 32 k.val) : starts i (ix2 r 0) = BitVec.ofNat 32 k.val := by
  have hk : ∀ k : Fin 1024, Scalar.select (IntOp.cmpi .slt (BitVec.ofNat 32 k.val) 0#32)
      (IntOp.addi (BitVec.ofNat 32 k.val) 1024#32) (BitVec.ofNat 32 k.val) = BitVec.ofNat 32 k.val := by decide +kernel
  pointwise [starts]
  rw [h]
  exact hk k

/-- An index below the number of codes lies in the table. -/
theorem inTable_apply (h : i (ix1 r) = BitVec.ofNat 32 k.val) : inTable i (ix1 r) = 1#1 := by
  have hs := starts_apply i r k h
  have hk : ∀ k : Fin 1024, IntOp.andi (IntOp.cmpi .sge (BitVec.ofNat 32 k.val) 0#32)
      (IntOp.cmpi .sle (BitVec.ofNat 32 k.val) 1023#32) = 1#1 := by decide +kernel
  unfold inTable
  generalize starts i = s at hs
  pointwise
  rw [Finset.univ_unique, Finset.fold_singleton, show (default : Fin 1) = 0 from rfl, hs, hk]
  rfl

/-- So the row taken is the index's. -/
theorem takeRows_apply (h : i (ix1 r) = BitVec.ofNat 32 k.val) (d : Fin 64) :
    takeRows x1 i (ix2 r d) = x1 (ix2 k d) := by
  have ht := inTable_apply i r k h
  have hg := Routing.gather_row gather_S1024x64_S32768x1_S32768x64_1_0_n_n_0_1_164 rfl rfl rfl rfl rfl x1 (starts i) r d k
    (starts_apply i r k h) (by norm_num)
  unfold takeRows
  generalize Host.gather gather_S1024x64_S32768x1_S32768x64_1_0_n_n_0_1_164 x1 (starts i) = G at hg
  generalize inTable i = T at ht
  pointwise
  rw [ht]
  exact hg

end Cert.ReferenceIdeal.Run

end
-- ==== Proof.RefValue.lean ====
/-
  The reference's three results, as functions of the latents and the codebook.
-/
module

public import proofs.«01_k».proof.Proof.RefIndex
public import proofs.«01_k».proof.Proof.RefTake

@[expose] public section

noncomputable section

namespace Cert.ReferenceIdeal.Run

open Cert.ReferenceIdeal Cert.ReferenceIdeal.Gen Idealize.ShloMosaic Idealize.ShloMosaic.Pointwise Cert.VQ

variable (x0 : FVec Ideal S32x64x1024 .f32) (x1 : FVec Ideal S1024x64 .f32)

/-- The quantized latents are the nearest codes. -/
theorem quantized_apply (b : Fin 32) (t : Fin 1024) (d : Fin 64) :
    quantized x0 x1 (ix3 b t d) = cod x1 (nearest (lat x0) (cod x1) b t) d := by
  have h := takeRows_apply x1 (argminOf (dist x0 x1)) (row b t) (nearest (lat x0) (cod x1) b t) (index_apply x0 x1 b t) d
  unfold quantized
  generalize takeRows x1 (argminOf (dist x0 x1)) = q at h ⊢
  refine Eq.trans ?_ h
  pointwise [row]

/-- The first result is the passed-through latents. -/
theorem out0_apply (b : Fin 32) (d : Fin 64) (t : Fin 1024) :
    out0 x0 x1 (ix3 b d t) = straight (lat x0) (cod x1) b d t := by
  have hz := latents_apply x0 b t d
  have hq := quantized_apply x0 x1 b t d
  unfold out0
  generalize latents x0 = z at hz ⊢
  generalize quantized x0 x1 = q at hq ⊢
  pointwise [passed, straight]
  rw [hz, hq]

/-- An index vector laid out by batch element and position. -/
theorem reshape_apply (i : IVec S32768 32) (b : Fin 32) (t : Fin 1024) :
    shapeCast S32x1024 i shapeCasts_S32768_S32x1024 (ix2 b t) = i (ix1 (row b t)) := by
  pointwise [row]

/-- The second result is the indices. -/
theorem out1_apply (b : Fin 32) (t : Fin 1024) :
    out1 x0 x1 (ix2 b t) = BitVec.ofNat 32 (nearest (lat x0) (cod x1) b t).val := by
  unfold out1
  rw [reshape_apply, index_apply]

/-- The loss of a sum of squares: its mean plus a quarter of its mean. -/
def lossOf (s : EReal) : FVec Ideal S_ .f32 :=
  addf (Host.divf (fun _ => s) (constant (F := Ideal) S_ .f32 0x4A000000#32))
    (mulf (constant (F := Ideal) S_ .f32 0x3E800000#32) (Host.divf (fun _ => s) (constant (F := Ideal) S_ .f32 0x4A000000#32)))

/-- The mean of squares of an array of the given total. -/
theorem meanSq_eq (D : FVec Ideal S32x1024x64 .f32) :
    meanSq D = Host.divf (fun _ => ∑ b : Fin 32, ∑ d : Fin 64, ∑ t : Fin 1024, D (ix3 b t d) * D (ix3 b t d))
      (constant (F := Ideal) S_ .f32 0x4A000000#32) := by
  unfold meanSq
  refine congrArg (fun s => Host.divf s (constant (F := Ideal) S_ .f32 0x4A000000#32)) ?_
  funext j
  pointwise
  exact Finset.sum_congr rfl fun b _ => Finset.sum_comm

/-- The third result is the loss of the sum of squares. -/
theorem out2_eq : out2 x0 x1 = lossOf (totalSq (lat x0) (cod x1)) := by
  have hz := latents_apply x0
  have hq := quantized_apply x0 x1
  unfold out2
  generalize latents x0 = z at hz ⊢
  generalize quantized x0 x1 = q at hq ⊢
  have h1 : ∀ b d t, subf z q (ix3 b t d) * subf z q (ix3 b t d)
      = (lat x0 b d t - cod x1 (nearest (lat x0) (cod x1) b t) d) * (lat x0 b d t - cod x1 (nearest (lat x0) (cod x1) b t) d) :=
    fun b d t => by rw [show subf z q (ix3 b t d) = z (ix3 b t d) - q (ix3 b t d) from rfl, hz, hq]
  have h2 : ∀ b d t, subf q z (ix3 b t d) * subf q z (ix3 b t d) = subf z q (ix3 b t d) * subf z q (ix3 b t d) :=
    fun b d t => sq_sub_comm _ _
  unfold loss lossOf totalSq batchSq
  rw [meanSq_eq, meanSq_eq]
  simp only [h2, h1]

end Cert.ReferenceIdeal.Run

end
-- ==== Proof.Equation.lean ====
/-
  The equation: from the same arguments the kernel and the reference end with the same three results.
-/
module

public import proofs.«01_k».proof.Defs
public import proofs.«01_k».proof.Proof.KernelRun
public import proofs.«01_k».proof.Proof.RefValue

@[expose] public section

noncomputable section

namespace Cert.Proof

open Idealize.ShloMosaic Idealize.ShloMosaic.Pointwise Idealize.ShloMosaic.TcCoe Idealize.SL.Sem Cert.VQ

/-- An index of a rank-three array is its three coordinates. -/
theorem eq_ix3 (i : Cert.ReferenceIdeal.S32x64x1024.Idx) : ∃ (b : Fin 32) (d : Fin 64) (t : Fin 1024), i = ix3 b d t :=
  ⟨i 0, i 1, i 2, funext fun a => by
    match a with
    | ⟨0, _⟩ => rfl
    | ⟨1, _⟩ => rfl
    | ⟨2, _⟩ => rfl⟩

/-- An index of a rank-two array is its two coordinates. -/
theorem eq_ix2 (i : Cert.ReferenceIdeal.S32x1024.Idx) : ∃ (b : Fin 32) (t : Fin 1024), i = ix2 b t :=
  ⟨i 0, i 1, funext fun a => by
    match a with
    | ⟨0, _⟩ => rfl
    | ⟨1, _⟩ => rfl⟩

variable (x0 : FVec Ideal Cert.ReferenceIdeal.S32x64x1024 .f32) (x1 : FVec Ideal Cert.ReferenceIdeal.S1024x64 .f32)

/-- The reference's first result as one function of its index. -/
theorem ref_out0 : Cert.ReferenceIdeal.Run.out0 x0 x1
    = fun i => straight (Cert.ReferenceIdeal.Run.lat x0) (Cert.ReferenceIdeal.Run.cod x1) (i 0) (i 1) (i 2) := by
  funext i
  obtain ⟨b, d, t, rfl⟩ := eq_ix3 i
  exact Cert.ReferenceIdeal.Run.out0_apply x0 x1 b d t

/-- The reference's second result likewise. -/
theorem ref_out1 : Cert.ReferenceIdeal.Run.out1 x0 x1
    = fun i => BitVec.ofNat 32 (nearest (Cert.ReferenceIdeal.Run.lat x0) (Cert.ReferenceIdeal.Run.cod x1) (i 0) (i 1)).val := by
  funext i
  obtain ⟨b, t, rfl⟩ := eq_ix2 i
  exact Cert.ReferenceIdeal.Run.out1_apply x0 x1 b t

/-- The kernel computes what the reference computes. -/
theorem algebraic : Cert.algebraic_KernelIdeal_ReferenceIdeal := by
  intro m g m' g' _ hagree
  refine ⟨_, _, _, Cert.KernelIdeal.Value.run m g, ?_⟩
  refine (θ_run _ _ _).mono (fun r h c => ?_) (Cert.ReferenceIdeal.Run.run (F := Ideal) m' g')
  obtain ⟨h0, h1, h2, h3, h4⟩ := h c
  rw [(hagree c).1, (hagree c).2] at h0 h1 h2
  exact ⟨h0.trans (ref_out0 _ _), h1.trans (ref_out1 _ _), h2.trans (Cert.ReferenceIdeal.Run.out2_eq _ _), h3, h4⟩

end Cert.Proof

end
-- ==== Proof.lean ====
/-
  The certificate: the three programs run safely and leave their arguments as they were, the kernel's idealized text is
  the kernel's text, and the kernel computes the reference's results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs safely, keeps its arguments and ends with every semaphore at zero. -/
theorem frame_reference : Cert.quiescent_ReferenceIdeal := fun m ρ _ =>
  (θ_run Cert.ReferenceIdeal.defs _ _).mono
    (fun r h => ⟨fun c => ⟨(h c).2.2.2.1, (h c).2.2.2.2⟩, sem_eq_zero_of_no_sems (by decide) r.2⟩)
    (Cert.ReferenceIdeal.Run.run (F := Ideal) m ρ)

/-- Every claim. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
